-- ==== Defs.lean ====
def Pre_Kernel (m : (ℓ : Loc Cert.Kernel.nD Cert.Kernel.τ Cert.Kernel.sig) → Buf (Elt Bits) ℓ) : Prop :=
  True

def Pre_Kernel_distinct [hPre_distinct : Cert.Pre_distinct.Facts] (m : (ℓ : Loc Cert.Kernel.nD Cert.Kernel.τ Cert.Kernel.sig) → Buf (Elt Bits) ℓ) : Prop :=
  ∀ c : Dev Cert.Kernel.nD,
    (Cert.Pre_distinct.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_distinct : Cert.Pre_distinct.Facts] (m : (ℓ : Loc Cert.KernelIdeal.nD Cert.KernelIdeal.τ Cert.KernelIdeal.sig) → Buf (Elt Ideal) ℓ) : Prop :=
  ∀ c : Dev Cert.KernelIdeal.nD,
    (Cert.Pre_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct [hPre_distinct : Cert.Pre_distinct.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_Kernel_pre_distinct [hKernel : Cert.Kernel.Facts] [hPre_distinct : Cert.Pre_distinct.Facts] : Prop :=
  ∀ (m : (ℓ : Loc Cert.Kernel.nD Cert.Kernel.τ Cert.Kernel.sig) → Buf (Elt Bits) ℓ) (g : Dev Cert.Kernel.nD → PrngReg), Pre_Kernel_distinct m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_distinct [hReferenceIdeal : Cert.ReferenceIdeal.Facts] [hPre_distinct : Cert.Pre_distinct.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_distinct : Cert.Pre_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v219)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v219) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_distinct : Cert.Pre_distinct.Facts),
    quiescent_Kernel (hKernel := hKernel)
    ∧ quiescent_Kernel_pre_distinct (hKernel := hKernel) (hPre_distinct := hPre_distinct)
    ∧ quiescent_KernelIdeal (hKernelIdeal := hKernelIdeal) (hPre_distinct := hPre_distinct)
    ∧ quiescent_ReferenceIdeal (hReferenceIdeal := hReferenceIdeal)
    ∧ quiescent_ReferenceIdeal_pre_distinct (hReferenceIdeal := hReferenceIdeal) (hPre_distinct := hPre_distinct)
    ∧ preserves_Kernel_KernelIdeal
    ∧ algebraic_KernelIdeal_ReferenceIdeal (hKernelIdeal := hKernelIdeal) (hReferenceIdeal := hReferenceIdeal) (hPre_distinct := hPre_distinct)
-- ==== Pre_distinct.lean ====
abbrev S128x3x32x32 : Shape := ⟨4, ![128, 3, 32, 32]⟩
abbrev S768x192 : Shape := ⟨2, ![768, 192]⟩
abbrev S192 : Shape := ⟨1, ![192]⟩
abbrev S384x192 : Shape := ⟨2, ![384, 192]⟩
abbrev S192x768 : Shape := ⟨2, ![192, 768]⟩
abbrev S768 : Shape := ⟨1, ![768]⟩
abbrev S192x1024 : Shape := ⟨2, ![192, 1024]⟩
abbrev S1024 : Shape := ⟨1, ![1024]⟩
abbrev S1024x10 : Shape := ⟨2, ![1024, 10]⟩
abbrev S10 : Shape := ⟨1, ![10]⟩
abbrev S_ : Shape := ⟨0, ![]⟩
abbrev S224 : Shape := ⟨1, ![224]⟩
abbrev S32 : Shape := ⟨1, ![32]⟩
abbrev S1x224 : Shape := ⟨2, ![1, 224]⟩
abbrev S32x1 : Shape := ⟨2, ![32, 1]⟩
abbrev S32x224 : Shape := ⟨2, ![32, 224]⟩
abbrev S128x3x32x1x32 : Shape := ⟨5, ![128, 3, 32, 1, 32]⟩
abbrev S32x224x1 : Shape := ⟨3, ![32, 224, 1]⟩
abbrev S1x1x32x224x1 : Shape := ⟨5, ![1, 1, 32, 224, 1]⟩
abbrev S128x3x32x224x32 : Shape := ⟨5, ![128, 3, 32, 224, 32]⟩
abbrev S128x3x224x32 : Shape := ⟨4, ![128, 3, 224, 32]⟩
abbrev S128x3x224x32x1 : Shape := ⟨5, ![128, 3, 224, 32, 1]⟩
abbrev S1x1x1x32x224 : Shape := ⟨5, ![1, 1, 1, 32, 224]⟩
abbrev S128x3x224x32x224 : Shape := ⟨5, ![128, 3, 224, 32, 224]⟩
abbrev S128x3x224x224 : Shape := ⟨4, ![128, 3, 224, 224]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S128x196x192 : Shape := ⟨3, ![128, 196, 192]⟩
abbrev S1x1x192 : Shape := ⟨3, ![1, 1, 192]⟩
abbrev S128x196 : Shape := ⟨2, ![128, 196]⟩
abbrev S128x196x1 : Shape := ⟨3, ![128, 196, 1]⟩
abbrev S128x1x196 : Shape := ⟨3, ![128, 1, 196]⟩
abbrev S128x196x196 : Shape := ⟨3, ![128, 196, 196]⟩
abbrev S128x192x196 : Shape := ⟨3, ![128, 192, 196]⟩
abbrev S128x196x1x196 : Shape := ⟨4, ![128, 196, 1, 196]⟩
abbrev S128x196x196x1 : Shape := ⟨4, ![128, 196, 196, 1]⟩
abbrev S128x196x196x196 : Shape := ⟨4, ![128, 196, 196, 196]⟩

class Facts : Prop where
  bcast_S_S128x3x32x32 : S_.BroadcastsInDim S128x3x32x32 (![] : Fin 0 → Fin S128x3x32x32.rank)
  reducesTo_S128x3x32x32_S_d0_1_2_3 : S128x3x32x32.ReducesTo [0, 1, 2, 3] S_
  h_S_ : 0 < S_.numel
  bcast_S_S768x192 : S_.BroadcastsInDim S768x192 (![] : Fin 0 → Fin S768x192.rank)
  reducesTo_S768x192_S_d0_1 : S768x192.ReducesTo [0, 1] S_
  bcast_S_S192 : S_.BroadcastsInDim S192 (![] : Fin 0 → Fin S192.rank)
  reducesTo_S192_S_d0 : S192.ReducesTo [0] S_
  bcast_S_S224 : S_.BroadcastsInDim S224 (![] : Fin 0 → Fin S224.rank)
  bcast_S224_S1x224_1 : S224.BroadcastsInDim S1x224 (![1] : Fin 1 → Fin S1x224.rank)
  bcast_S32_S32x1_0 : S32.BroadcastsInDim S32x1 (![0] : Fin 1 → Fin S32x1.rank)
  bcast_S1x224_S32x224_0_1 : S1x224.BroadcastsInDim S32x224 (![0, 1] : Fin 2 → Fin S32x224.rank)
  bcast_S32x1_S32x224_0_1 : S32x1.BroadcastsInDim S32x224 (![0, 1] : Fin 2 → Fin S32x224.rank)
  bcast_S_S32x224 : S_.BroadcastsInDim S32x224 (![] : Fin 0 → Fin S32x224.rank)
  reducesTo_S32x224_S224_d0 : S32x224.ReducesTo [0] S224
  bcast_S_S1x224 : S_.BroadcastsInDim S1x224 (![] : Fin 0 → Fin S1x224.rank)
  bcast_S128x3x32x32_S128x3x32x1x32_0_1_2_4 : S128x3x32x32.BroadcastsInDim S128x3x32x1x32 (![0, 1, 2, 4] : Fin 4 → Fin S128x3x32x1x32.rank)
  bcast_S32x224_S32x224x1_0_1 : S32x224.BroadcastsInDim S32x224x1 (![0, 1] : Fin 2 → Fin S32x224x1.rank)
  bcast_S32x224x1_S1x1x32x224x1_2_3_4 : S32x224x1.BroadcastsInDim S1x1x32x224x1 (![2, 3, 4] : Fin 3 → Fin S1x1x32x224x1.rank)
  bcast_S128x3x32x1x32_S128x3x32x224x32_0_1_2_3_4 : S128x3x32x1x32.BroadcastsInDim S128x3x32x224x32 (![0, 1, 2, 3, 4] : Fin 5 → Fin S128x3x32x224x32.rank)
  bcast_S1x1x32x224x1_S128x3x32x224x32_0_1_2_3_4 : S1x1x32x224x1.BroadcastsInDim S128x3x32x224x32 (![0, 1, 2, 3, 4] : Fin 5 → Fin S128x3x32x224x32.rank)
  reducesTo_S128x3x32x224x32_S128x3x224x32_d2 : S128x3x32x224x32.ReducesTo [2] S128x3x224x32
  bcast_S128x3x224x32_S128x3x224x32x1_0_1_2_3 : S128x3x224x32.BroadcastsInDim S128x3x224x32x1 (![0, 1, 2, 3] : Fin 4 → Fin S128x3x224x32x1.rank)
  bcast_S32x224_S1x1x1x32x224_3_4 : S32x224.BroadcastsInDim S1x1x1x32x224 (![3, 4] : Fin 2 → Fin S1x1x1x32x224.rank)
  bcast_S128x3x224x32x1_S128x3x224x32x224_0_1_2_3_4 : S128x3x224x32x1.BroadcastsInDim S128x3x224x32x224 (![0, 1, 2, 3, 4] : Fin 5 → Fin S128x3x224x32x224.rank)
  bcast_S1x1x1x32x224_S128x3x224x32x224_0_1_2_3_4 : S1x1x1x32x224.BroadcastsInDim S128x3x224x32x224 (![0, 1, 2, 3, 4] : Fin 5 → Fin S128x3x224x32x224.rank)
  reducesTo_S128x3x224x32x224_S128x3x224x224_d3 : S128x3x224x32x224.ReducesTo [3] S128x3x224x224
  shapeCasts_S128x3x224x224_S128x3x14x16x14x16 : S128x3x224x224.ShapeCasts S128x3x14x16x14x16
  transposes_S128x3x14x16x14x16_S128x14x14x3x16x16_0_2_4_1_3_5 : S128x3x14x16x14x16.Transposes [0, 2, 4, 1, 3, 5] S128x14x14x3x16x16
  shapeCasts_S128x14x14x3x16x16_S128x196x768 : S128x14x14x3x16x16.ShapeCasts S128x196x768
  bcast_S192_S1x1x192_2 : S192.BroadcastsInDim S1x1x192 (![2] : Fin 1 → Fin S1x1x192.rank)
  bcast_S1x1x192_S128x196x192_0_1_2 : S1x1x192.BroadcastsInDim S128x196x192 (![0, 1, 2] : Fin 3 → Fin S128x196x192.rank)
  reducesTo_S128x196x192_S128x196_d2 : S128x196x192.ReducesTo [2] S128x196
  bcast_S128x196_S128x196x1_0_1 : S128x196.BroadcastsInDim S128x196x1 (![0, 1] : Fin 2 → Fin S128x196x1.rank)
  bcast_S128x196_S128x1x196_0_2 : S128x196.BroadcastsInDim S128x1x196 (![0, 2] : Fin 2 → Fin S128x1x196.rank)
  bcast_S128x196x1_S128x196x196_0_1_2 : S128x196x1.BroadcastsInDim S128x196x196 (![0, 1, 2] : Fin 3 → Fin S128x196x196.rank)
  bcast_S128x1x196_S128x196x196_0_1_2 : S128x1x196.BroadcastsInDim S128x196x196 (![0, 1, 2] : Fin 3 → Fin S128x196x196.rank)
  transposes_S128x196x192_S128x192x196_0_2_1 : S128x196x192.Transposes [0, 2, 1] S128x192x196
  bcast_S_S128x196x196 : S_.BroadcastsInDim S128x196x196 (![] : Fin 0 → Fin S128x196x196.rank)
  bcast_S128x196x196_S128x196x1x196_0_1_3 : S128x196x196.BroadcastsInDim S128x196x1x196 (![0, 1, 3] : Fin 3 → Fin S128x196x1x196.rank)
  bcast_S128x196x196_S128x196x196x1_0_1_2 : S128x196x196.BroadcastsInDim S128x196x196x1 (![0, 1, 2] : Fin 3 → Fin S128x196x196x1.rank)
  bcast_S128x196x1x196_S128x196x196x196_0_1_2_3 : S128x196x1x196.BroadcastsInDim S128x196x196x196 (![0, 1, 2, 3] : Fin 4 → Fin S128x196x196x196.rank)
  bcast_S128x196x196x1_S128x196x196x196_0_1_2_3 : S128x196x196x1.BroadcastsInDim S128x196x196x196 (![0, 1, 2, 3] : Fin 4 → Fin S128x196x196x196.rank)
  natLt_1_32 : 1 < 32
  reducesTo_S128x196x196x196_S128x196x196_d3 : S128x196x196x196.ReducesTo [3] S128x196x196
  dot_S128x196x768_S768x192_S128x196x192_2_0_01_1_n_n_wf : DotDims.WF S128x196x768 S768x192 S128x196x192 [2] [0] [0, 1] [1] [] []
  dot_S128x196x192_S128x192x196_S128x196x196_2_1_1_2_0_0_wf : DotDims.WF S128x196x192 S128x192x196 S128x196x196 [2] [1] [1] [2] [0] [0]

variable [Facts]

def dot_S128x196x768_S768x192_S128x196x192_2_0_01_1_n_n : DotDims S128x196x768 S768x192 S128x196x192 where
  lhsContracting := [2]
  rhsContracting := [0]
  lhsNonContracting := [0, 1]
  rhsNonContracting := [1]
  lhsBatch := []
  rhsBatch := []
  wf := dot_S128x196x768_S768x192_S128x196x192_2_0_01_1_n_n_wf
def dot_S128x196x192_S128x192x196_S128x196x196_2_1_1_2_0_0 : DotDims S128x196x192 S128x192x196 S128x196x196 where
  lhsContracting := [2]
  rhsContracting := [1]
  lhsNonContracting := [1]
  rhsNonContracting := [2]
  lhsBatch := [0]
  rhsBatch := [0]
  wf := dot_S128x196x192_S128x192x196_S128x196x196_2_1_1_2_0_0_wf
def fn_where {F : FTy → Type} [FloatOps F] (arg0 : IVec S1x224 1) (arg1 : FVec F S1x224 .f32) (arg2 : IVec S_ 32) : FVec F S1x224 .f32 :=
  let v0 : FVec F S_ .f32 := sitofp .f32 arg2
  let v1 : FVec F S1x224 .f32 := broadcastInDim S1x224 ![] bcast_S_S1x224 v0
  let v2 : FVec F S1x224 .f32 := select arg0 arg1 v1
  v2

def fn_where_0 {F : FTy → Type} [FloatOps F] (arg0 : IVec S1x224 1) (arg1 : FVec F S32x224 .f32) (arg2 : IVec S_ 32) : FVec F S32x224 .f32 :=
  let v0 : FVec F S_ .f32 := sitofp .f32 arg2
  let v1 : IVec S32x224 1 := broadcastInDim S32x224 ![0, 1] bcast_S1x224_S32x224_0_1 arg0
  let v2 : FVec F S32x224 .f32 := broadcastInDim S32x224 ![] bcast_S_S32x224 v0
  let v3 : FVec F S32x224 .f32 := select v1 arg1 v2
  v3

def fn_part5 {F : FTy → Type} [FloatOps F] (main_v13 : IVec S_ 1) (main_v88 : FVec F S128x196x196 .f32) (main_v93 : IVec S128x196x196x196 1) : IVec S128x196x196 1 :=
  let main_v94 : IVec S128x196x196x196 32 := (extui 32 · natLt_1_32) main_v93
  let main_c_24 : IVec S_ 32 := constantI S_ 32 0#32
  let main_v95 : IVec S128x196x196 32 := (fun x v => Host.reduce IntOp.addi x v reducesTo_S128x196x196x196_S128x196x196_d3 h_S_) main_v94 main_c_24
  let main_v96 : FVec F S128x196x1x196 .f32 := broadcastInDim S128x196x1x196 ![0, 1, 3] bcast_S128x196x196_S128x196x1x196_0_1_3 main_v88
  let main_v97 : FVec F S128x196x196x1 .f32 := broadcastInDim S128x196x196x1 ![0, 1, 2] bcast_S128x196x196_S128x196x196x1_0_1_2 main_v88
  let main_v98 : FVec F S128x196x196x196 .f32 := broadcastInDim S128x196x196x196 ![0, 1, 2, 3] bcast_S128x196x1x196_S128x196x196x196_0_1_2_3 main_v96
  let main_v99 : FVec F S128x196x196x196 .f32 := broadcastInDim S128x196x196x196 ![0, 1, 2, 3] bcast_S128x196x196x1_S128x196x196x196_0_1_2_3 main_v97
  let main_v100 : IVec S128x196x196x196 1 := cmpf .oeq main_v98 main_v99
  let main_v101 : IVec S128x196x196x196 32 := (extui 32 · natLt_1_32) main_v100
  let main_c_25 : IVec S_ 32 := constantI S_ 32 0#32
  let main_v102 : IVec S128x196x196 32 := (fun x v => Host.reduce IntOp.addi x v reducesTo_S128x196x196x196_S128x196x196_d3 h_S_) main_v101 main_c_25
  let main_c_26 : IVec S_ 32 := constantI S_ 32 9#32
  let main_v103 : IVec S128x196x196 32 := broadcastInDim S128x196x196 ![] bcast_S_S128x196x196 main_c_26
  let main_v104 : IVec S128x196x196 1 := cmpi .sge main_v95 main_v103
  let main_c_27 : IVec S_ 32 := constantI S_ 32 1#32
  let main_v105 : IVec S128x196x196 32 := broadcastInDim S128x196x196 ![] bcast_S_S128x196x196 main_c_27
  let main_v106 : IVec S128x196x196 1 := cmpi .eq main_v102 main_v105
  let main_v107 : IVec S128x196x196 1 := ori main_v104 main_v106
  let main_v108 : IVec S128x196x196 1 := broadcastInDim S128x196x196 ![] bcast_S_S128x196x196 main_v13
  let main_v109 : IVec S128x196x196 1 := andi main_v108 main_v107
  main_v109

def fn_part4 {F : FTy → Type} [FloatOps F] (main_arg1 : FVec F S768x192 .f32) (main_arg2 : FVec F S192 .f32) (main_v13 : IVec S_ 1) (main_v71 : FVec F S128x14x14x3x16x16 .f32) : IVec S128x196x196 1 :=
  let main_v72 : FVec F S128x196x768 .f32 := shapeCast S128x196x768 main_v71 shapeCasts_S128x14x14x3x16x16_S128x196x768
  let main_v73 : FVec F S128x196x192 .f32 := (fun l r => Host.dotGeneral dot_S128x196x768_S768x192_S128x196x192_2_0_01_1_n_n none l r) main_v72 main_arg1
  let main_v74 : FVec F S1x1x192 .f32 := broadcastInDim S1x1x192 ![2] bcast_S192_S1x1x192_2 main_arg2
  let main_v75 : FVec F S128x196x192 .f32 := broadcastInDim S128x196x192 ![0, 1, 2] bcast_S1x1x192_S128x196x192_0_1_2 main_v74
  let main_v76 : FVec F S128x196x192 .f32 := addf main_v73 main_v75
  let main_v77 : FVec F S128x196x192 .f32 := mulf main_v76 main_v76
  let main_cst_22 : FVec F S_ .f32 := constant S_ .f32 0x00000000#32
  let main_v78 : FVec F S128x196 .f32 := (fun x v => Host.reduceAdd x v reducesTo_S128x196x192_S128x196_d2 h_S_) main_v77 main_cst_22
  let main_v79 : FVec F S128x196x1 .f32 := broadcastInDim S128x196x1 ![0, 1] bcast_S128x196_S128x196x1_0_1 main_v78
  let main_v80 : FVec F S128x1x196 .f32 := broadcastInDim S128x1x196 ![0, 2] bcast_S128x196_S128x1x196_0_2 main_v78
  let main_v81 : FVec F S128x196x196 .f32 := broadcastInDim S128x196x196 ![0, 1, 2] bcast_S128x196x1_S128x196x196_0_1_2 main_v79
  let main_v82 : FVec F S128x196x196 .f32 := broadcastInDim S128x196x196 ![0, 1, 2] bcast_S128x1x196_S128x196x196_0_1_2 main_v80
  let main_v83 : FVec F S128x196x196 .f32 := addf main_v81 main_v82
  let main_v84 : FVec F S128x192x196 .f32 := (transpose S128x192x196 [0, 2, 1] · transposes_S128x196x192_S128x192x196_0_2_1) main_v76
  let main_v85 : FVec F S128x196x196 .f32 := (fun l r => Host.dotGeneral dot_S128x196x192_S128x192x196_S128x196x196_2_1_1_2_0_0 none l r) main_v76 main_v84
  let main_cst_23 : FVec F S_ .f32 := constant S_ .f32 0x40000000#32
  let main_v86 : FVec F S128x196x196 .f32 := broadcastInDim S128x196x196 ![] bcast_S_S128x196x196 main_cst_23
  let main_v87 : FVec F S128x196x196 .f32 := mulf main_v86 main_v85
  let main_v88 : FVec F S128x196x196 .f32 := subf main_v83 main_v87
  let main_v89 : FVec F S128x196x1x196 .f32 := broadcastInDim S128x196x1x196 ![0, 1, 3] bcast_S128x196x196_S128x196x1x196_0_1_3 main_v88
  let main_v90 : FVec F S128x196x196x1 .f32 := broadcastInDim S128x196x196x1 ![0, 1, 2] bcast_S128x196x196_S128x196x196x1_0_1_2 main_v88
  let main_v91 : FVec F S128x196x196x196 .f32 := broadcastInDim S128x196x196x196 ![0, 1, 2, 3] bcast_S128x196x1x196_S128x196x196x196_0_1_2_3 main_v89
  let main_v92 : FVec F S128x196x196x196 .f32 := broadcastInDim S128x196x196x196 ![0, 1, 2, 3] bcast_S128x196x196x1_S128x196x196x196_0_1_2_3 main_v90
  let main_v93 : IVec S128x196x196x196 1 := cmpf .olt main_v91 main_v92
  fn_part5 (F := F) main_v13 main_v88 main_v93

def fn_part3 {F : FTy → Type} [FloatOps F] (main_arg0 : FVec F S128x3x32x32 .f32) (main_arg1 : FVec F S768x192 .f32) (main_arg2 : FVec F S192 .f32) (main_v13 : IVec S_ 1) (main_v23 : FVec F S224 .f32) (main_v49 : FVec F S32x224 .f32) (main_v51 : IVec S224 1) : IVec S128x196x196 1 :=
  let main_cst_18 : FVec F S_ .f32 := constant S_ .f32 0x41FC0000#32
  let main_v52 : FVec F S224 .f32 := broadcastInDim S224 ![] bcast_S_S224 main_cst_18
  let main_v53 : IVec S224 1 := cmpf .ole main_v23 main_v52
  let main_v54 : IVec S224 1 := andi main_v51 main_v53
  let main_v55 : IVec S1x224 1 := broadcastInDim S1x224 ![1] bcast_S224_S1x224_1 main_v54
  let main_c_19 : IVec S_ 32 := constantI S_ 32 0#32
  let main_v56 : FVec F S32x224 .f32 := fn_where_0 (F := F) main_v55 main_v49 main_c_19
  let main_v57 : FVec F S128x3x32x1x32 .f32 := broadcastInDim S128x3x32x1x32 ![0, 1, 2, 4] bcast_S128x3x32x32_S128x3x32x1x32_0_1_2_4 main_arg0
  let main_v58 : FVec F S32x224x1 .f32 := broadcastInDim S32x224x1 ![0, 1] bcast_S32x224_S32x224x1_0_1 main_v56
  let main_v59 : FVec F S1x1x32x224x1 .f32 := broadcastInDim S1x1x32x224x1 ![2, 3, 4] bcast_S32x224x1_S1x1x32x224x1_2_3_4 main_v58
  let main_v60 : FVec F S128x3x32x224x32 .f32 := broadcastInDim S128x3x32x224x32 ![0, 1, 2, 3, 4] bcast_S128x3x32x1x32_S128x3x32x224x32_0_1_2_3_4 main_v57
  let main_v61 : FVec F S128x3x32x224x32 .f32 := broadcastInDim S128x3x32x224x32 ![0, 1, 2, 3, 4] bcast_S1x1x32x224x1_S128x3x32x224x32_0_1_2_3_4 main_v59
  let main_v62 : FVec F S128x3x32x224x32 .f32 := mulf main_v60 main_v61
  let main_cst_20 : FVec F S_ .f32 := constant S_ .f32 0x00000000#32
  let main_v63 : FVec F S128x3x224x32 .f32 := (fun x v => Host.reduceAdd x v reducesTo_S128x3x32x224x32_S128x3x224x32_d2 h_S_) main_v62 main_cst_20
  let main_v64 : FVec F S128x3x224x32x1 .f32 := broadcastInDim S128x3x224x32x1 ![0, 1, 2, 3] bcast_S128x3x224x32_S128x3x224x32x1_0_1_2_3 main_v63
  let main_v65 : FVec F S1x1x1x32x224 .f32 := broadcastInDim S1x1x1x32x224 ![3, 4] bcast_S32x224_S1x1x1x32x224_3_4 main_v56
  let main_v66 : FVec F S128x3x224x32x224 .f32 := broadcastInDim S128x3x224x32x224 ![0, 1, 2, 3, 4] bcast_S128x3x224x32x1_S128x3x224x32x224_0_1_2_3_4 main_v64
  let main_v67 : FVec F S128x3x224x32x224 .f32 := broadcastInDim S128x3x224x32x224 ![0, 1, 2, 3, 4] bcast_S1x1x1x32x224_S128x3x224x32x224_0_1_2_3_4 main_v65
  let main_v68 : FVec F S128x3x224x32x224 .f32 := mulf main_v66 main_v67
  let main_cst_21 : FVec F S_ .f32 := constant S_ .f32 0x00000000#32
  let main_v69 : FVec F S128x3x224x224 .f32 := (fun x v => Host.reduceAdd x v reducesTo_S128x3x224x32x224_S128x3x224x224_d3 h_S_) main_v68 main_cst_21
  let main_v70 : FVec F S128x3x14x16x14x16 .f32 := shapeCast S128x3x14x16x14x16 main_v69 shapeCasts_S128x3x224x224_S128x3x14x16x14x16
  let main_v71 : FVec F S128x14x14x3x16x16 .f32 := (transpose S128x14x14x3x16x16 [0, 2, 4, 1, 3, 5] · transposes_S128x3x14x16x14x16_S128x14x14x3x16x16_0_2_4_1_3_5) main_v70
  fn_part4 (F := F) main_arg1 main_arg2 main_v13 main_v71

def fn_part2 {F : FTy → Type} [FloatOps F] (main_arg0 : FVec F S128x3x32x32 .f32) (main_arg1 : FVec F S768x192 .f32) (main_arg2 : FVec F S192 .f32) (main_v13 : IVec S_ 1) (main_v23 : FVec F S224 .f32) (main_v34 : FVec F S32x224 .f32) (main_cst_10 : FVec F S_ .f32) : IVec S128x196x196 1 :=
  let main_v35 : FVec F S32x224 .f32 := broadcastInDim S32x224 ![] bcast_S_S32x224 main_cst_10
  let main_v36 : FVec F S32x224 .f32 := subf main_v35 main_v34
  let main_cst_11 : FVec F S_ .f32 := constant S_ .f32 0x00000000#32
  let main_v37 : FVec F S32x224 .f32 := broadcastInDim S32x224 ![] bcast_S_S32x224 main_cst_11
  let main_v38 : FVec F S32x224 .f32 := maximumf main_v37 main_v36
  let main_cst_12 : FVec F S_ .f32 := constant S_ .f32 0x00000000#32
  let main_v39 : FVec F S224 .f32 := (fun x v => Host.reduceAdd x v reducesTo_S32x224_S224_d0 h_S_) main_v38 main_cst_12
  let main_v40 : FVec F S1x224 .f32 := broadcastInDim S1x224 ![1] bcast_S224_S1x224_1 main_v39
  let main_v41 : FVec F S1x224 .f32 := Host.absf main_v40
  let main_cst_13 : FVec F S_ .f32 := constant S_ .f32 0x38FA0000#32
  let main_v42 : FVec F S1x224 .f32 := broadcastInDim S1x224 ![] bcast_S_S1x224 main_cst_13
  let main_v43 : IVec S1x224 1 := cmpf .ogt main_v41 main_v42
  let main_cst_14 : FVec F S_ .f32 := constant S_ .f32 0x00000000#32
  let main_v44 : FVec F S1x224 .f32 := broadcastInDim S1x224 ![] bcast_S_S1x224 main_cst_14
  let main_v45 : IVec S1x224 1 := cmpf .une main_v40 main_v44
  let main_c_15 : IVec S_ 32 := constantI S_ 32 1#32
  let main_v46 : FVec F S1x224 .f32 := fn_where (F := F) main_v45 main_v40 main_c_15
  let main_v47 : FVec F S32x224 .f32 := broadcastInDim S32x224 ![0, 1] bcast_S1x224_S32x224_0_1 main_v46
  let main_v48 : FVec F S32x224 .f32 := Host.divf main_v38 main_v47
  let main_c_16 : IVec S_ 32 := constantI S_ 32 0#32
  let main_v49 : FVec F S32x224 .f32 := fn_where_0 (F := F) main_v43 main_v48 main_c_16
  let main_cst_17 : FVec F S_ .f32 := constant S_ .f32 0xBF000000#32
  let main_v50 : FVec F S224 .f32 := broadcastInDim S224 ![] bcast_S_S224 main_cst_17
  let main_v51 : IVec S224 1 := cmpf .oge main_v23 main_v50
  fn_part3 (F := F) main_arg0 main_arg1 main_arg2 main_v13 main_v23 main_v49 main_v51

def fn_part1 {F : FTy → Type} [FloatOps F] (main_arg0 : FVec F S128x3x32x32 .f32) (main_arg1 : FVec F S768x192 .f32) (main_arg2 : FVec F S192 .f32) (main_v13 : IVec S_ 1) (main_v14 : FVec F S_ .f32) (main_v15 : FVec F S224 .f32) : IVec S128x196x196 1 :=
  let main_cst_6 : FVec F S_ .f32 := constant S_ .f32 0x3F000000#32
  let main_v16 : FVec F S224 .f32 := broadcastInDim S224 ![] bcast_S_S224 main_cst_6
  let main_v17 : FVec F S224 .f32 := addf main_v15 main_v16
  let main_cst_7 : FVec F S_ .f32 := constant S_ .f32 0x3E124925#32
  let main_v18 : FVec F S224 .f32 := broadcastInDim S224 ![] bcast_S_S224 main_cst_7
  let main_v19 : FVec F S224 .f32 := mulf main_v17 main_v18
  let main_cst_8 : FVec F S_ .f32 := constant S_ .f32 0x00000000#32
  let main_v20 : FVec F S224 .f32 := broadcastInDim S224 ![] bcast_S_S224 main_cst_8
  let main_v21 : FVec F S224 .f32 := subf main_v19 main_v20
  let main_cst_9 : FVec F S_ .f32 := constant S_ .f32 0x3F000000#32
  let main_v22 : FVec F S224 .f32 := broadcastInDim S224 ![] bcast_S_S224 main_cst_9
  let main_v23 : FVec F S224 .f32 := subf main_v21 main_v22
  let main_v24 : FVec F S32 .f32 := sitofp .f32 (iotaInDim S32 32 0)
  let main_v25 : FVec F S1x224 .f32 := broadcastInDim S1x224 ![1] bcast_S224_S1x224_1 main_v23
  let main_v26 : FVec F S32x1 .f32 := broadcastInDim S32x1 ![0] bcast_S32_S32x1_0 main_v24
  let main_v27 : FVec F S32x224 .f32 := broadcastInDim S32x224 ![0, 1] bcast_S1x224_S32x224_0_1 main_v25
  let main_v28 : FVec F S32x224 .f32 := broadcastInDim S32x224 ![0, 1] bcast_S32x1_S32x224_0_1 main_v26
  let main_v29 : FVec F S32x224 .f32 := subf main_v27 main_v28
  let main_v30 : FVec F S32x224 .f32 := Host.absf main_v29
  let main_v31 : FVec F S_ .f32 := id main_v14
  let main_v32 : FVec F S32x224 .f32 := broadcastInDim S32x224 ![] bcast_S_S32x224 main_v31
  let main_v33 : FVec F S32x224 .f32 := Host.divf main_v30 main_v32
  let main_v34 : FVec F S32x224 .f32 := Host.absf main_v33
  let main_cst_10 : FVec F S_ .f32 := constant S_ .f32 0x3F800000#32
  fn_part2 (F := F) main_arg0 main_arg1 main_arg2 main_v13 main_v23 main_v34 main_cst_10

def fn {F : FTy → Type} [FloatOps F] (main_arg0 : FVec F S128x3x32x32 .f32) (main_arg1 : FVec F S768x192 .f32) (main_arg2 : FVec F S192 .f32) (main_arg3 : FVec F S384x192 .f32) (main_arg4 : FVec F S192 .f32) (main_arg5 : FVec F S192x768 .f32) (main_arg6 : FVec F S768 .f32) (main_arg7 : FVec F S768x192 .f32) (main_arg8 : FVec F S192 .f32) (main_arg9 : FVec F S192x1024 .f32) (main_arg10 : FVec F S1024 .f32) (main_arg11 : FVec F S1024x10 .f32) (main_arg12 : FVec F S10 .f32) : IVec S128x196x196 1 :=
  let main_v0 : FVec F S128x3x32x32 .f32 := Host.absf main_arg0
  let main_cst : FVec F S_ .f32 := constant S_ .f32 0x7F800000#32
  let main_v1 : FVec F S128x3x32x32 .f32 := broadcastInDim S128x3x32x32 ![] bcast_S_S128x3x32x32 main_cst
  let main_v2 : IVec S128x3x32x32 1 := cmpf .olt main_v0 main_v1
  let main_c : IVec S_ 1 := constantI S_ 1 1#1
  let main_v3 : IVec S_ 1 := (fun x v => Host.reduce IntOp.andi x v reducesTo_S128x3x32x32_S_d0_1_2_3 h_S_) main_v2 main_c
  let main_v4 : FVec F S768x192 .f32 := Host.absf main_arg1
  let main_cst_0 : FVec F S_ .f32 := constant S_ .f32 0x7F800000#32
  let main_v5 : FVec F S768x192 .f32 := broadcastInDim S768x192 ![] bcast_S_S768x192 main_cst_0
  let main_v6 : IVec S768x192 1 := cmpf .olt main_v4 main_v5
  let main_c_1 : IVec S_ 1 := constantI S_ 1 1#1
  let main_v7 : IVec S_ 1 := (fun x v => Host.reduce IntOp.andi x v reducesTo_S768x192_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_cst_4 : FVec F S_ .f32 := constant S_ .f32 0x3E124925#32
  let main_cst_5 : FVec F S_ .f32 := constant S_ .f32 0x3F800000#32
  let main_v14 : FVec F S_ .f32 := maximumf main_cst_4 main_cst_5
  let main_v15 : FVec F S224 .f32 := sitofp .f32 (iotaInDim S224 32 0)
  fn_part1 (F := F) main_arg0 main_arg1 main_arg2 main_v13 main_v14 main_v15
-- ==== Kernel.lean ====
abbrev S128x3x32x32 : Shape := ⟨4, ![128, 3, 32, 32]⟩
abbrev S768x192 : Shape := ⟨2, ![768, 192]⟩
abbrev S192 : Shape := ⟨1, ![192]⟩
abbrev S384x192 : Shape := ⟨2, ![384, 192]⟩
abbrev S192x768 : Shape := ⟨2, ![192, 768]⟩
abbrev S768 : Shape := ⟨1, ![768]⟩
abbrev S192x1024 : Shape := ⟨2, ![192, 1024]⟩
abbrev S1024 : Shape := ⟨1, ![1024]⟩
abbrev S1024x10 : Shape := ⟨2, ![1024, 10]⟩
abbrev S10 : Shape := ⟨1, ![10]⟩
abbrev S_ : Shape := ⟨0, ![]⟩
abbrev S224 : Shape := ⟨1, ![224]⟩
abbrev S32 : Shape := ⟨1, ![32]⟩
abbrev S1x224 : Shape := ⟨2, ![1, 224]⟩
abbrev S32x1 : Shape := ⟨2, ![32, 1]⟩
abbrev S32x224 : Shape := ⟨2, ![32, 224]⟩
abbrev S224x32 : Shape := ⟨2, ![224, 32]⟩
abbrev S14x16 : Shape := ⟨2, ![14, 16]⟩
abbrev S16x14 : Shape := ⟨2, ![16, 14]⟩
abbrev S224x1 : Shape := ⟨2, ![224, 1]⟩
abbrev S12288x32 : Shape := ⟨2, ![12288, 32]⟩
abbrev S12288x224 : Shape := ⟨2, ![12288, 224]⟩
abbrev S128x3x32x224 : Shape := ⟨4, ![128, 3, 32, 224]⟩
abbrev S128x224x3x32 : Shape := ⟨4, ![128, 224, 3, 32]⟩
abbrev S128x224x96 : Shape := ⟨3, ![128, 224, 96]⟩
abbrev S3x16x16x192 : Shape := ⟨4, ![3, 16, 16, 192]⟩
abbrev S16x32 : Shape := ⟨2, ![16, 32]⟩
abbrev S1x1x16x32x1 : Shape := ⟨5, ![1, 1, 16, 32, 1]⟩
abbrev S16x3x16x192 : Shape := ⟨4, ![16, 3, 16, 192]⟩
abbrev S16x3x16x1x192 : Shape := ⟨5, ![16, 3, 16, 1, 192]⟩
abbrev S16x3x16x32x192 : Shape := ⟨5, ![16, 3, 16, 32, 192]⟩
abbrev S16x3x32x192 : Shape := ⟨4, ![16, 3, 32, 192]⟩
abbrev S1536x192 : Shape := ⟨2, ![1536, 192]⟩
abbrev S1x1536x192 : Shape := ⟨3, ![1, 1536, 192]⟩
abbrev S14x1536x192 : Shape := ⟨3, ![14, 1536, 192]⟩
abbrev S1x192 : Shape := ⟨2, ![1, 192]⟩
abbrev S128x14x14x192 : Shape := ⟨4, ![128, 14, 14, 192]⟩
abbrev S16x224x96 : Shape := ⟨3, ![16, 224, 96]⟩
abbrev S16x14x14x192 : Shape := ⟨4, ![16, 14, 14, 192]⟩
abbrev S16x16x14x96 : Shape := ⟨4, ![16, 16, 14, 96]⟩
abbrev S16x1x14x96 : Shape := ⟨4, ![16, 1, 14, 96]⟩
abbrev S16x14x96 : Shape := ⟨3, ![16, 14, 96]⟩
abbrev S16x14x1536 : Shape := ⟨3, ![16, 14, 1536]⟩
abbrev S224x1536 : Shape := ⟨2, ![224, 1536]⟩
abbrev S224x192 : Shape := ⟨2, ![224, 192]⟩
abbrev S16x1x14x192 : Shape := ⟨4, ![16, 1, 14, 192]⟩
abbrev S128x196x192 : Shape := ⟨3, ![128, 196, 192]⟩
abbrev S192x192 : Shape := ⟨2, ![192, 192]⟩
abbrev S1x768 : Shape := ⟨2, ![1, 768]⟩
abbrev S32x4x192 : Shape := ⟨3, ![32, 4, 192]⟩
abbrev S4x196x192 : Shape := ⟨3, ![4, 196, 192]⟩
abbrev S1x4x192 : Shape := ⟨3, ![1, 4, 192]⟩
abbrev S784x192 : Shape := ⟨2, ![784, 192]⟩
abbrev S196x196 : Shape := ⟨2, ![196, 196]⟩
abbrev S196x192 : Shape := ⟨2, ![196, 192]⟩
abbrev S196 : Shape := ⟨1, ![196]⟩
abbrev S196x1 : Shape := ⟨2, ![196, 1]⟩
abbrev S192x196 : Shape := ⟨2, ![192, 196]⟩
abbrev S1x196 : Shape := ⟨2, ![1, 196]⟩
abbrev S196x768 : Shape := ⟨2, ![196, 768]⟩
abbrev S4x192 : Shape := ⟨2, ![4, 192]⟩
abbrev S128x192 : Shape := ⟨2, ![128, 192]⟩
abbrev S1x1024 : Shape := ⟨2, ![1, 1024]⟩
abbrev S1x10 : Shape := ⟨2, ![1, 10]⟩
abbrev S128x10 : Shape := ⟨2, ![128, 10]⟩
abbrev S128x1024 : Shape := ⟨2, ![128, 1024]⟩

abbrev nBuf : Space → Nat
  | .hbm => 273
  | .vmem => 26
  | .smem => 0
  | _ => 0

abbrev hbmTy0_0 (i : Nat) : BufTy := match i % 128 with
  | 0 => ⟨S128x3x32x32, .f32⟩
  | 1 => ⟨S768x192, .f32⟩
  | 2 => ⟨S192, .f32⟩
  | 3 => ⟨S384x192, .f32⟩
  | 4 => ⟨S192, .f32⟩
  | 5 => ⟨S192x768, .f32⟩
  | 6 => ⟨S768, .f32⟩
  | 7 => ⟨S768x192, .f32⟩
  | 8 => ⟨S192, .f32⟩
  | 9 => ⟨S192x1024, .f32⟩
  | 10 => ⟨S1024, .f32⟩
  | 11 => ⟨S1024x10, .f32⟩
  | 12 => ⟨S10, .f32⟩
  | 13 => ⟨S_, .f32⟩
  | 14 => ⟨S_, .f32⟩
  | 15 => ⟨S_, .f32⟩
  | 16 => ⟨S224, .f32⟩
  | 17 => ⟨S_, .f32⟩
  | 18 => ⟨S224, .f32⟩
  | 19 => ⟨S224, .f32⟩
  | 20 => ⟨S_, .f32⟩
  | 21 => ⟨S224, .f32⟩
  | 22 => ⟨S224, .f32⟩
  | 23 => ⟨S_, .f32⟩
  | 24 => ⟨S224, .f32⟩
  | 25 => ⟨S224, .f32⟩
  | 26 => ⟨S_, .f32⟩
  | 27 => ⟨S224, .f32⟩
  | 28 => ⟨S224, .f32⟩
  | 29 => ⟨S32, .f32⟩
  | 30 => ⟨S1x224, .f32⟩
  | 31 => ⟨S32x1, .f32⟩
  | 32 => ⟨S32x224, .f32⟩
  | 33 => ⟨S32x224, .f32⟩
  | 34 => ⟨S32x224, .f32⟩
  | 35 => ⟨S32x224, .f32⟩
  | 36 => ⟨S_, .f32⟩
  | 37 => ⟨S32x224, .f32⟩
  | 38 => ⟨S32x224, .f32⟩
  | 39 => ⟨S32x224, .f32⟩
  | 40 => ⟨S_, .f32⟩
  | 41 => ⟨S32x224, .f32⟩
  | 42 => ⟨S32x224, .f32⟩
  | 43 => ⟨S_, .f32⟩
  | 44 => ⟨S32x224, .f32⟩
  | 45 => ⟨S32x224, .f32⟩
  | 46 => ⟨S_, .f32⟩
  | 47 => ⟨S224, .f32⟩
  | 48 => ⟨S1x224, .f32⟩
  | 49 => ⟨S1x224, .f32⟩
  | 50 => ⟨S_, .f32⟩
  | 51 => ⟨S1x224, .f32⟩
  | 52 => ⟨S1x224, .i1⟩
  | 53 => ⟨S_, .f32⟩
  | 54 => ⟨S1x224, .f32⟩
  | 55 => ⟨S1x224, .i1⟩
  | 56 => ⟨S_, .i32⟩
  | 57 => ⟨S_, .f32⟩
  | 58 => ⟨S1x224, .f32⟩
  | 59 => ⟨S1x224, .f32⟩
  | 60 => ⟨S32x224, .f32⟩
  | 61 => ⟨S32x224, .f32⟩
  | 62 => ⟨S_, .i32⟩
  | 63 => ⟨S_, .f32⟩
  | 64 => ⟨S32x224, .i1⟩
  | 65 => ⟨S32x224, .f32⟩
  | 66 => ⟨S32x224, .f32⟩
  | 67 => ⟨S_, .f32⟩
  | 68 => ⟨S224, .f32⟩
  | 69 => ⟨S224, .i1⟩
  | 70 => ⟨S_, .f32⟩
  | 71 => ⟨S224, .f32⟩
  | 72 => ⟨S224, .i1⟩
  | 73 => ⟨S224, .i1⟩
  | 74 => ⟨S1x224, .i1⟩
  | 75 => ⟨S_, .i32⟩
  | 76 => ⟨S_, .f32⟩
  | 77 => ⟨S32x224, .i1⟩
  | 78 => ⟨S32x224, .f32⟩
  | 79 => ⟨S32x224, .f32⟩
  | 80 => ⟨S224x32, .f32⟩
  | 81 => ⟨S224, .i32⟩
  | 82 => ⟨S14x16, .i32⟩
  | 83 => ⟨S16x14, .i32⟩
  | 84 => ⟨S224, .i32⟩
  | 85 => ⟨S32x224, .f32⟩
  | 86 => ⟨S_, .i32⟩
  | 87 => ⟨S224, .i32⟩
  | 88 => ⟨S224, .i1⟩
  | 89 => ⟨S_, .i32⟩
  | 90 => ⟨S224, .i32⟩
  | 91 => ⟨S224, .i32⟩
  | 92 => ⟨S224, .i32⟩
  | 93 => ⟨S224x1, .i32⟩
  | 94 => ⟨S32x224, .f32⟩
  | 95 => ⟨S12288x32, .f32⟩
  | 96 => ⟨S12288x224, .f32⟩
  | 97 => ⟨S128x3x32x224, .f32⟩
  | 98 => ⟨S128x224x3x32, .f32⟩
  | 99 => ⟨S128x224x96, .f32⟩
  | 100 => ⟨S3x16x16x192, .f32⟩
  | 101 => ⟨S16x32, .f32⟩
  | 102 => ⟨S1x1x16x32x1, .f32⟩
  | 103 => ⟨S16x3x16x192, .f32⟩
  | 104 => ⟨S16x3x16x1x192, .f32⟩
  | 105 => ⟨S16x3x16x32x192, .f32⟩
  | 106 => ⟨S16x3x16x32x192, .f32⟩
  | 107 => ⟨S16x3x16x32x192, .f32⟩
  | 108 => ⟨S_, .f32⟩
  | 109 => ⟨S16x3x32x192, .f32⟩
  | 110 => ⟨S1536x192, .f32⟩
  | 111 => ⟨S16x32, .f32⟩
  | 112 => ⟨S1x1x16x32x1, .f32⟩
  | 113 => ⟨S16x3x16x192, .f32⟩
  | 114 => ⟨S16x3x16x1x192, .f32⟩
  | 115 => ⟨S16x3x16x32x192, .f32⟩
  | 116 => ⟨S16x3x16x32x192, .f32⟩
  | 117 => ⟨S16x3x16x32x192, .f32⟩
  | 118 => ⟨S_, .f32⟩
  | 119 => ⟨S16x3x32x192, .f32⟩
  | 120 => ⟨S1536x192, .f32⟩
  | 121 => ⟨S16x32, .f32⟩
  | 122 => ⟨S1x1x16x32x1, .f32⟩
  | 123 => ⟨S16x3x16x192, .f32⟩
  | 124 => ⟨S16x3x16x1x192, .f32⟩
  | 125 => ⟨S16x3x16x32x192, .f32⟩
  | 126 => ⟨S16x3x16x32x192, .f32⟩
  | 127 => ⟨S16x3x16x32x192, .f32⟩
  | _ => ⟨S128x3x32x32, .f32⟩

abbrev hbmTy0_1 (i : Nat) : BufTy := match i % 128 with
  | 0 => ⟨S_, .f32⟩
  | 1 => ⟨S16x3x32x192, .f32⟩
  | 2 => ⟨S1536x192, .f32⟩
  | 3 => ⟨S16x32, .f32⟩
  | 4 => ⟨S1x1x16x32x1, .f32⟩
  | 5 => ⟨S16x3x16x192, .f32⟩
  | 6 => ⟨S16x3x16x1x192, .f32⟩
  | 7 => ⟨S16x3x16x32x192, .f32⟩
  | 8 => ⟨S16x3x16x32x192, .f32⟩
  | 9 => ⟨S16x3x16x32x192, .f32⟩
  | 10 => ⟨S_, .f32⟩
  | 11 => ⟨S16x3x32x192, .f32⟩
  | 12 => ⟨S1536x192, .f32⟩
  | 13 => ⟨S16x32, .f32⟩
  | 14 => ⟨S1x1x16x32x1, .f32⟩
  | 15 => ⟨S16x3x16x192, .f32⟩
  | 16 => ⟨S16x3x16x1x192, .f32⟩
  | 17 => ⟨S16x3x16x32x192, .f32⟩
  | 18 => ⟨S16x3x16x32x192, .f32⟩
  | 19 => ⟨S16x3x16x32x192, .f32⟩
  | 20 => ⟨S_, .f32⟩
  | 21 => ⟨S16x3x32x192, .f32⟩
  | 22 => ⟨S1536x192, .f32⟩
  | 23 => ⟨S16x32, .f32⟩
  | 24 => ⟨S1x1x16x32x1, .f32⟩
  | 25 => ⟨S16x3x16x192, .f32⟩
  | 26 => ⟨S16x3x16x1x192, .f32⟩
  | 27 => ⟨S16x3x16x32x192, .f32⟩
  | 28 => ⟨S16x3x16x32x192, .f32⟩
  | 29 => ⟨S16x3x16x32x192, .f32⟩
  | 30 => ⟨S_, .f32⟩
  | 31 => ⟨S16x3x32x192, .f32⟩
  | 32 => ⟨S1536x192, .f32⟩
  | 33 => ⟨S16x32, .f32⟩
  | 34 => ⟨S1x1x16x32x1, .f32⟩
  | 35 => ⟨S16x3x16x192, .f32⟩
  | 36 => ⟨S16x3x16x1x192, .f32⟩
  | 37 => ⟨S16x3x16x32x192, .f32⟩
  | 38 => ⟨S16x3x16x32x192, .f32⟩
  | 39 => ⟨S16x3x16x32x192, .f32⟩
  | 40 => ⟨S_, .f32⟩
  | 41 => ⟨S16x3x32x192, .f32⟩
  | 42 => ⟨S1536x192, .f32⟩
  | 43 => ⟨S16x32, .f32⟩
  | 44 => ⟨S1x1x16x32x1, .f32⟩
  | 45 => ⟨S16x3x16x192, .f32⟩
  | 46 => ⟨S16x3x16x1x192, .f32⟩
  | 47 => ⟨S16x3x16x32x192, .f32⟩
  | 48 => ⟨S16x3x16x32x192, .f32⟩
  | 49 => ⟨S16x3x16x32x192, .f32⟩
  | 50 => ⟨S_, .f32⟩
  | 51 => ⟨S16x3x32x192, .f32⟩
  | 52 => ⟨S1536x192, .f32⟩
  | 53 => ⟨S16x32, .f32⟩
  | 54 => ⟨S1x1x16x32x1, .f32⟩
  | 55 => ⟨S16x3x16x192, .f32⟩
  | 56 => ⟨S16x3x16x1x192, .f32⟩
  | 57 => ⟨S16x3x16x32x192, .f32⟩
  | 58 => ⟨S16x3x16x32x192, .f32⟩
  | 59 => ⟨S16x3x16x32x192, .f32⟩
  | 60 => ⟨S_, .f32⟩
  | 61 => ⟨S16x3x32x192, .f32⟩
  | 62 => ⟨S1536x192, .f32⟩
  | 63 => ⟨S16x32, .f32⟩
  | 64 => ⟨S1x1x16x32x1, .f32⟩
  | 65 => ⟨S16x3x16x192, .f32⟩
  | 66 => ⟨S16x3x16x1x192, .f32⟩
  | 67 => ⟨S16x3x16x32x192, .f32⟩
  | 68 => ⟨S16x3x16x32x192, .f32⟩
  | 69 => ⟨S16x3x16x32x192, .f32⟩
  | 70 => ⟨S_, .f32⟩
  | 71 => ⟨S16x3x32x192, .f32⟩
  | 72 => ⟨S1536x192, .f32⟩
  | 73 => ⟨S16x32, .f32⟩
  | 74 => ⟨S1x1x16x32x1, .f32⟩
  | 75 => ⟨S16x3x16x192, .f32⟩
  | 76 => ⟨S16x3x16x1x192, .f32⟩
  | 77 => ⟨S16x3x16x32x192, .f32⟩
  | 78 => ⟨S16x3x16x32x192, .f32⟩
  | 79 => ⟨S16x3x16x32x192, .f32⟩
  | 80 => ⟨S_, .f32⟩
  | 81 => ⟨S16x3x32x192, .f32⟩
  | 82 => ⟨S1536x192, .f32⟩
  | 83 => ⟨S16x32, .f32⟩
  | 84 => ⟨S1x1x16x32x1, .f32⟩
  | 85 => ⟨S16x3x16x192, .f32⟩
  | 86 => ⟨S16x3x16x1x192, .f32⟩
  | 87 => ⟨S16x3x16x32x192, .f32⟩
  | 88 => ⟨S16x3x16x32x192, .f32⟩
  | 89 => ⟨S16x3x16x32x192, .f32⟩
  | 90 => ⟨S_, .f32⟩
  | 91 => ⟨S16x3x32x192, .f32⟩
  | 92 => ⟨S1536x192, .f32⟩
  | 93 => ⟨S16x32, .f32⟩
  | 94 => ⟨S1x1x16x32x1, .f32⟩
  | 95 => ⟨S16x3x16x192, .f32⟩
  | 96 => ⟨S16x3x16x1x192, .f32⟩
  | 97 => ⟨S16x3x16x32x192, .f32⟩
  | 98 => ⟨S16x3x16x32x192, .f32⟩
  | 99 => ⟨S16x3x16x32x192, .f32⟩
  | 100 => ⟨S_, .f32⟩
  | 101 => ⟨S16x3x32x192, .f32⟩
  | 102 => ⟨S1536x192, .f32⟩
  | 103 => ⟨S16x32, .f32⟩
  | 104 => ⟨S1x1x16x32x1, .f32⟩
  | 105 => ⟨S16x3x16x192, .f32⟩
  | 106 => ⟨S16x3x16x1x192, .f32⟩
  | 107 => ⟨S16x3x16x32x192, .f32⟩
  | 108 => ⟨S16x3x16x32x192, .f32⟩
  | 109 => ⟨S16x3x16x32x192, .f32⟩
  | 110 => ⟨S_, .f32⟩
  | 111 => ⟨S16x3x32x192, .f32⟩
  | 112 => ⟨S1536x192, .f32⟩
  | 113 => ⟨S1x1536x192, .f32⟩
  | 114 => ⟨S1x1536x192, .f32⟩
  | 115 => ⟨S1x1536x192, .f32⟩
  | 116 => ⟨S1x1536x192, .f32⟩
  | 117 => ⟨S1x1536x192, .f32⟩
  | 118 => ⟨S1x1536x192, .f32⟩
  | 119 => ⟨S1x1536x192, .f32⟩
  | 120 => ⟨S1x1536x192, .f32⟩
  | 121 => ⟨S1x1536x192, .f32⟩
  | 122 => ⟨S1x1536x192, .f32⟩
  | 123 => ⟨S1x1536x192, .f32⟩
  | 124 => ⟨S1x1536x192, .f32⟩
  | 125 => ⟨S1x1536x192, .f32⟩
  | 126 => ⟨S1x1536x192, .f32⟩
  | 127 => ⟨S14x1536x192, .f32⟩
  | _ => ⟨S128x3x32x32, .f32⟩

abbrev hbmTy0_2 (i : Nat) : BufTy := match i % 128 with
  | 0 => ⟨S1x192, .f32⟩
  | 1 => ⟨S128x14x14x192, .f32⟩
  | 2 => ⟨S128x196x192, .f32⟩
  | 3 => ⟨S192x192, .f32⟩
  | 4 => ⟨S192x192, .bf16⟩
  | 5 => ⟨S192x192, .f32⟩
  | 6 => ⟨S192x192, .bf16⟩
  | 7 => ⟨S1x192, .f32⟩
  | 8 => ⟨S192x768, .bf16⟩
  | 9 => ⟨S1x768, .f32⟩
  | 10 => ⟨S768x192, .bf16⟩
  | 11 => ⟨S1x192, .f32⟩
  | 12 => ⟨S32x4x192, .f32⟩
  | 13 => ⟨S128x192, .f32⟩
  | 14 => ⟨S1x1024, .f32⟩
  | 15 => ⟨S1x10, .f32⟩
  | 16 => ⟨S128x10, .f32⟩
  | _ => ⟨S128x3x32x32, .f32⟩

abbrev hbmTy (i : Nat) : BufTy := match i / 128 with
  | 0 => hbmTy0_0 i
  | 1 => hbmTy0_1 i
  | 2 => hbmTy0_2 i
  | _ => ⟨S128x3x32x32, .f32⟩

abbrev bufTy : (tb : Table) → Fin (tcTables nBuf tb) → BufTy
  | .hbm, ⟨i, _⟩ => hbmTy i
  | .local _ .vmem, ⟨0, _⟩ => ⟨S12288x32, .f32⟩
  | .local _ .vmem, ⟨1, _⟩ => ⟨S32x224, .f32⟩
  | .local _ .vmem, ⟨2, _⟩ => ⟨S12288x224, .f32⟩
  | .local _ .vmem, ⟨3, _⟩ => ⟨S16x224x96, .f32⟩
  | .local _ .vmem, ⟨4, _⟩ => ⟨S16x224x96, .f32⟩
  | .local _ .vmem, ⟨5, _⟩ => ⟨S14x1536x192, .f32⟩
  | .local _ .vmem, ⟨6, _⟩ => ⟨S1x192, .f32⟩
  | .local _ .vmem, ⟨7, _⟩ => ⟨S16x14x14x192, .f32⟩
  | .local _ .vmem, ⟨8, _⟩ => ⟨S16x14x14x192, .f32⟩
  | .local _ .vmem, ⟨9, _⟩ => ⟨S4x196x192, .f32⟩
  | .local _ .vmem, ⟨10, _⟩ => ⟨S4x196x192, .f32⟩
  | .local _ .vmem, ⟨11, _⟩ => ⟨S192x192, .bf16⟩
  | .local _ .vmem, ⟨12, _⟩ => ⟨S192x192, .bf16⟩
  | .local _ .vmem, ⟨13, _⟩ => ⟨S1x192, .f32⟩
  | .local _ .vmem, ⟨14, _⟩ => ⟨S192x768, .bf16⟩
  | .local _ .vmem, ⟨15, _⟩ => ⟨S1x768, .f32⟩
  | .local _ .vmem, ⟨16, _⟩ => ⟨S768x192, .bf16⟩
  | .local _ .vmem, ⟨17, _⟩ => ⟨S1x192, .f32⟩
  | .local _ .vmem, ⟨18, _⟩ => ⟨S1x4x192, .f32⟩
  | .local _ .vmem, ⟨19, _⟩ => ⟨S1x4x192, .f32⟩
  | .local _ .vmem, ⟨20, _⟩ => ⟨S128x192, .f32⟩
  | .local _ .vmem, ⟨21, _⟩ => ⟨S192x1024, .f32⟩
  | .local _ .vmem, ⟨22, _⟩ => ⟨S1x1024, .f32⟩
  | .local _ .vmem, ⟨23, _⟩ => ⟨S1024x10, .f32⟩
  | .local _ .vmem, ⟨24, _⟩ => ⟨S1x10, .f32⟩
  | .local _ .vmem, ⟨25, _⟩ => ⟨S128x10, .f32⟩
  | _, _ => ⟨S128x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_cst_0 : Ref sig .tc := ⟨.hbm, 14, rfl⟩
abbrev main_v0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_v5 : Ref sig .tc := ⟨.hbm, 22, rfl⟩
abbrev main_cst_3 : Ref sig .tc := ⟨.hbm, 23, rfl⟩
abbrev main_v6 : Ref sig .tc := ⟨.hbm, 24, rfl⟩
abbrev main_v7 : Ref sig .tc := ⟨.hbm, 25, rfl⟩
abbrev main_cst_4 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_5 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_cst_9 : Ref sig .tc := ⟨.hbm, 53, rfl⟩
abbrev main_v30 : Ref sig .tc := ⟨.hbm, 54, rfl⟩
abbrev main_v31 : Ref sig .tc := ⟨.hbm, 55, rfl⟩
abbrev main_c : Ref sig .tc := ⟨.hbm, 56, rfl⟩
abbrev main_call0_v0 : Ref sig .tc := ⟨.hbm, 57, rfl⟩
abbrev main_call0_v1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_10 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v35 : Ref sig .tc := ⟨.hbm, 66, rfl⟩
abbrev main_cst_11 : Ref sig .tc := ⟨.hbm, 67, rfl⟩
abbrev main_v36 : Ref sig .tc := ⟨.hbm, 68, rfl⟩
abbrev main_v37 : Ref sig .tc := ⟨.hbm, 69, rfl⟩
abbrev main_cst_12 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_13 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_c_14 : Ref sig .tc := ⟨.hbm, 86, rfl⟩
abbrev main_v49 : Ref sig .tc := ⟨.hbm, 87, rfl⟩
abbrev main_v50 : Ref sig .tc := ⟨.hbm, 88, rfl⟩
abbrev main_c_15 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_16 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_17 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_18 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_20 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_cst_21 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_22 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_cst_23 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_24 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_25 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_cst_26 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_cst_27 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_28 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_cst_29 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg8_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem6_0 : DmaSem sig := 16
abbrev cc2_sem7_0 : DmaSem sig := 17
abbrev cc2_sem8_0 : DmaSem sig := 18
abbrev cc2_sem8_1 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25

abbrev nD : Nat := 1
abbrev τ : Topo := Topo.v7x

variable {F : FTy → Type} [FloatOps F]

abbrev grid0 : Pipeline.Grid := .none

abbrev stage0_0 : Fin 1 → Memref sig .tc .vmem S12288x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S16x224x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S14x1536x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16x14x14x192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x196x192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S192x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S192x192 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S192x768 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x768 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S768x192 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x192 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S1x4x192 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := .none

abbrev stage3_0 : Fin 1 → Memref sig .tc .vmem S128x192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S192x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S128x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
-- ==== ReferenceIdeal.lean ====
abbrev S128x3x32x32 : Shape := ⟨4, ![128, 3, 32, 32]⟩
abbrev S768x192 : Shape := ⟨2, ![768, 192]⟩
abbrev S192 : Shape := ⟨1, ![192]⟩
abbrev S384x192 : Shape := ⟨2, ![384, 192]⟩
abbrev S192x768 : Shape := ⟨2, ![192, 768]⟩
abbrev S768 : Shape := ⟨1, ![768]⟩
abbrev S192x1024 : Shape := ⟨2, ![192, 1024]⟩
abbrev S1024 : Shape := ⟨1, ![1024]⟩
abbrev S1024x10 : Shape := ⟨2, ![1024, 10]⟩
abbrev S10 : Shape := ⟨1, ![10]⟩
abbrev S_ : Shape := ⟨0, ![]⟩
abbrev S224 : Shape := ⟨1, ![224]⟩
abbrev S32 : Shape := ⟨1, ![32]⟩
abbrev S1x224 : Shape := ⟨2, ![1, 224]⟩
abbrev S32x1 : Shape := ⟨2, ![32, 1]⟩
abbrev S32x224 : Shape := ⟨2, ![32, 224]⟩
abbrev S224x128x3x32 : Shape := ⟨4, ![224, 128, 3, 32]⟩
abbrev S224x128x3x224 : Shape := ⟨4, ![224, 128, 3, 224]⟩
abbrev S128x3x224x224 : Shape := ⟨4, ![128, 3, 224, 224]⟩
abbrev S128x3x14x16x14x16 : Shape := ⟨6, ![128, 3, 14, 16, 14, 16]⟩
abbrev S128x14x14x3x16x16 : Shape := ⟨6, ![128, 14, 14, 3, 16, 16]⟩
abbrev S128x196x768 : Shape := ⟨3, ![128, 196, 768]⟩
abbrev S128x196x192 : Shape := ⟨3, ![128, 196, 192]⟩
abbrev S1x1x192 : Shape := ⟨3, ![1, 1, 192]⟩
abbrev S128x196 : Shape := ⟨2, ![128, 196]⟩
abbrev S128x196x1 : Shape := ⟨3, ![128, 196, 1]⟩
abbrev S128x1x196 : Shape := ⟨3, ![128, 1, 196]⟩
abbrev S128x196x196 : Shape := ⟨3, ![128, 196, 196]⟩
abbrev S128x192x196 : Shape := ⟨3, ![128, 192, 196]⟩
abbrev S128x196x9 : Shape := ⟨3, ![128, 196, 9]⟩
abbrev S128x196x9x1 : Shape := ⟨4, ![128, 196, 9, 1]⟩
abbrev S128x196x9x192 : Shape := ⟨4, ![128, 196, 9, 192]⟩
abbrev S128x196x1x192 : Shape := ⟨4, ![128, 196, 1, 192]⟩
abbrev S128x196x384 : Shape := ⟨3, ![128, 196, 384]⟩
abbrev S1x1x768 : Shape := ⟨3, ![1, 1, 768]⟩
abbrev S128x192 : Shape := ⟨2, ![128, 192]⟩
abbrev S128x1024 : Shape := ⟨2, ![128, 1024]⟩
abbrev S1x1024 : Shape := ⟨2, ![1, 1024]⟩
abbrev S128x10 : Shape := ⟨2, ![128, 10]⟩
abbrev S1x10 : Shape := ⟨2, ![1, 10]⟩

abbrev nBuf : Space → Nat
  | .hbm => 250
  | .vmem => 0
  | .smem => 0
  | _ => 0

abbrev hbmTy0_0 (i : Nat) : BufTy := match i % 128 with
  | 0 => ⟨S128x3x32x32, .f32⟩
  | 1 => ⟨S768x192, .f32⟩
  | 2 => ⟨S192, .f32⟩
  | 3 => ⟨S384x192, .f32⟩
  | 4 => ⟨S192, .f32⟩
  | 5 => ⟨S192x768, .f32⟩
  | 6 => ⟨S768, .f32⟩
  | 7 => ⟨S768x192, .f32⟩
  | 8 => ⟨S192, .f32⟩
  | 9 => ⟨S192x1024, .f32⟩
  | 10 => ⟨S1024, .f32⟩
  | 11 => ⟨S1024x10, .f32⟩
  | 12 => ⟨S10, .f32⟩
  | 13 => ⟨S_, .f32⟩
  | 14 => ⟨S_, .f32⟩
  | 15 => ⟨S_, .f32⟩
  | 16 => ⟨S224, .f32⟩
  | 17 => ⟨S_, .f32⟩
  | 18 => ⟨S224, .f32⟩
  | 19 => ⟨S224, .f32⟩
  | 20 => ⟨S_, .f32⟩
  | 21 => ⟨S224, .f32⟩
  | 22 => ⟨S224, .f32⟩
  | 23 => ⟨S_, .f32⟩
  | 24 => ⟨S224, .f32⟩
  | 25 => ⟨S224, .f32⟩
  | 26 => ⟨S_, .f32⟩
  | 27 => ⟨S224, .f32⟩
  | 28 => ⟨S224, .f32⟩
  | 29 => ⟨S32, .f32⟩
  | 30 => ⟨S1x224, .f32⟩
  | 31 => ⟨S32x1, .f32⟩
  | 32 => ⟨S32x224, .f32⟩
  | 33 => ⟨S32x224, .f32⟩
  | 34 => ⟨S32x224, .f32⟩
  | 35 => ⟨S32x224, .f32⟩
  | 36 => ⟨S_, .f32⟩
  | 37 => ⟨S32x224, .f32⟩
  | 38 => ⟨S32x224, .f32⟩
  | 39 => ⟨S32x224, .f32⟩
  | 40 => ⟨S_, .f32⟩
  | 41 => ⟨S32x224, .f32⟩
  | 42 => ⟨S32x224, .f32⟩
  | 43 => ⟨S_, .f32⟩
  | 44 => ⟨S32x224, .f32⟩
  | 45 => ⟨S32x224, .f32⟩
  | 46 => ⟨S_, .f32⟩
  | 47 => ⟨S224, .f32⟩
  | 48 => ⟨S1x224, .f32⟩
  | 49 => ⟨S1x224, .f32⟩
  | 50 => ⟨S_, .f32⟩
  | 51 => ⟨S1x224, .f32⟩
  | 52 => ⟨S1x224, .i1⟩
  | 53 => ⟨S_, .f32⟩
  | 54 => ⟨S1x224, .f32⟩
  | 55 => ⟨S1x224, .i1⟩
  | 56 => ⟨S_, .i32⟩
  | 57 => ⟨S_, .f32⟩
  | 58 => ⟨S1x224, .f32⟩
  | 59 => ⟨S1x224, .f32⟩
  | 60 => ⟨S32x224, .f32⟩
  | 61 => ⟨S32x224, .f32⟩
  | 62 => ⟨S_, .i32⟩
  | 63 => ⟨S_, .f32⟩
  | 64 => ⟨S32x224, .i1⟩
  | 65 => ⟨S32x224, .f32⟩
  | 66 => ⟨S32x224, .f32⟩
  | 67 => ⟨S_, .f32⟩
  | 68 => ⟨S224, .f32⟩
  | 69 => ⟨S224, .i1⟩
  | 70 => ⟨S_, .f32⟩
  | 71 => ⟨S224, .f32⟩
  | 72 => ⟨S224, .i1⟩
  | 73 => ⟨S224, .i1⟩
  | 74 => ⟨S1x224, .i1⟩
  | 75 => ⟨S_, .i32⟩
  | 76 => ⟨S_, .f32⟩
  | 77 => ⟨S32x224, .i1⟩
  | 78 => ⟨S32x224, .f32⟩
  | 79 => ⟨S32x224, .f32⟩
  | 80 => ⟨S_, .f32⟩
  | 81 => ⟨S_, .f32⟩
  | 82 => ⟨S_, .f32⟩
  | 83 => ⟨S224, .f32⟩
  | 84 => ⟨S_, .f32⟩
  | 85 => ⟨S224, .f32⟩
  | 86 => ⟨S224, .f32⟩
  | 87 => ⟨S_, .f32⟩
  | 88 => ⟨S224, .f32⟩
  | 89 => ⟨S224, .f32⟩
  | 90 => ⟨S_, .f32⟩
  | 91 => ⟨S224, .f32⟩
  | 92 => ⟨S224, .f32⟩
  | 93 => ⟨S_, .f32⟩
  | 94 => ⟨S224, .f32⟩
  | 95 => ⟨S224, .f32⟩
  | 96 => ⟨S32, .f32⟩
  | 97 => ⟨S1x224, .f32⟩
  | 98 => ⟨S32x1, .f32⟩
  | 99 => ⟨S32x224, .f32⟩
  | 100 => ⟨S32x224, .f32⟩
  | 101 => ⟨S32x224, .f32⟩
  | 102 => ⟨S32x224, .f32⟩
  | 103 => ⟨S_, .f32⟩
  | 104 => ⟨S32x224, .f32⟩
  | 105 => ⟨S32x224, .f32⟩
  | 106 => ⟨S32x224, .f32⟩
  | 107 => ⟨S_, .f32⟩
  | 108 => ⟨S32x224, .f32⟩
  | 109 => ⟨S32x224, .f32⟩
  | 110 => ⟨S_, .f32⟩
  | 111 => ⟨S32x224, .f32⟩
  | 112 => ⟨S32x224, .f32⟩
  | 113 => ⟨S_, .f32⟩
  | 114 => ⟨S224, .f32⟩
  | 115 => ⟨S1x224, .f32⟩
  | 116 => ⟨S1x224, .f32⟩
  | 117 => ⟨S_, .f32⟩
  | 118 => ⟨S1x224, .f32⟩
  | 119 => ⟨S1x224, .i1⟩
  | 120 => ⟨S_, .f32⟩
  | 121 => ⟨S1x224, .f32⟩
  | 122 => ⟨S1x224, .i1⟩
  | 123 => ⟨S_, .i32⟩
  | 124 => ⟨S_, .f32⟩
  | 125 => ⟨S1x224, .f32⟩
  | 126 => ⟨S1x224, .f32⟩
  | 127 => ⟨S32x224, .f32⟩
  | _ => ⟨S128x3x32x32, .f32⟩

abbrev hbmTy0_1 (i : Nat) : BufTy := match i % 128 with
  | 0 => ⟨S32x224, .f32⟩
  | 1 => ⟨S_, .i32⟩
  | 2 => ⟨S_, .f32⟩
  | 3 => ⟨S32x224, .i1⟩
  | 4 => ⟨S32x224, .f32⟩
  | 5 => ⟨S32x224, .f32⟩
  | 6 => ⟨S_, .f32⟩
  | 7 => ⟨S224, .f32⟩
  | 8 => ⟨S224, .i1⟩
  | 9 => ⟨S_, .f32⟩
  | 10 => ⟨S224, .f32⟩
  | 11 => ⟨S224, .i1⟩
  | 12 => ⟨S224, .i1⟩
  | 13 => ⟨S1x224, .i1⟩
  | 14 => ⟨S_, .i32⟩
  | 15 => ⟨S_, .f32⟩
  | 16 => ⟨S32x224, .i1⟩
  | 17 => ⟨S32x224, .f32⟩
  | 18 => ⟨S32x224, .f32⟩
  | 19 => ⟨S224x128x3x32, .f32⟩
  | 20 => ⟨S224x128x3x224, .f32⟩
  | 21 => ⟨S128x3x224x224, .f32⟩
  | 22 => ⟨S128x3x14x16x14x16, .f32⟩
  | 23 => ⟨S128x14x14x3x16x16, .f32⟩
  | 24 => ⟨S128x196x768, .f32⟩
  | 25 => ⟨S128x196x192, .f32⟩
  | 26 => ⟨S1x1x192, .f32⟩
  | 27 => ⟨S128x196x192, .f32⟩
  | 28 => ⟨S128x196x192, .f32⟩
  | 29 => ⟨S128x196x192, .f32⟩
  | 30 => ⟨S_, .f32⟩
  | 31 => ⟨S128x196, .f32⟩
  | 32 => ⟨S128x196x1, .f32⟩
  | 33 => ⟨S128x1x196, .f32⟩
  | 34 => ⟨S128x196x196, .f32⟩
  | 35 => ⟨S128x196x196, .f32⟩
  | 36 => ⟨S128x196x196, .f32⟩
  | 37 => ⟨S128x192x196, .f32⟩
  | 38 => ⟨S128x196x196, .f32⟩
  | 39 => ⟨S_, .f32⟩
  | 40 => ⟨S128x196x196, .f32⟩
  | 41 => ⟨S128x196x196, .f32⟩
  | 42 => ⟨S128x196x196, .f32⟩
  | 43 => ⟨S128x196x196, .f32⟩
  | 44 => ⟨S128x196x9, .f32⟩
  | 45 => ⟨S128x196x9, .i32⟩
  | 46 => ⟨S_, .i32⟩
  | 47 => ⟨S128x196x9, .i32⟩
  | 48 => ⟨S128x196x9, .i1⟩
  | 49 => ⟨S_, .i32⟩
  | 50 => ⟨S128x196x9, .i32⟩
  | 51 => ⟨S128x196x9, .i32⟩
  | 52 => ⟨S128x196x9, .i32⟩
  | 53 => ⟨S128x196x9x1, .i32⟩
  | 54 => ⟨S128x196x9x192, .f32⟩
  | 55 => ⟨S128x196x1x192, .f32⟩
  | 56 => ⟨S128x196x9x192, .f32⟩
  | 57 => ⟨S128x196x9x192, .f32⟩
  | 58 => ⟨S_, .f32⟩
  | 59 => ⟨S128x196x192, .f32⟩
  | 60 => ⟨S128x196x384, .f32⟩
  | 61 => ⟨S128x196x192, .f32⟩
  | 62 => ⟨S1x1x192, .f32⟩
  | 63 => ⟨S128x196x192, .f32⟩
  | 64 => ⟨S128x196x192, .f32⟩
  | 65 => ⟨S128x196x192, .f32⟩
  | 66 => ⟨S128x196x768, .f32⟩
  | 67 => ⟨S1x1x768, .f32⟩
  | 68 => ⟨S128x196x768, .f32⟩
  | 69 => ⟨S128x196x768, .f32⟩
  | 70 => ⟨S128x196x768, .f32⟩
  | 71 => ⟨S128x196x768, .f32⟩
  | 72 => ⟨S_, .f32⟩
  | 73 => ⟨S128x196x768, .f32⟩
  | 74 => ⟨S128x196x768, .f32⟩
  | 75 => ⟨S128x196x768, .f32⟩
  | 76 => ⟨S_, .f32⟩
  | 77 => ⟨S128x196x768, .f32⟩
  | 78 => ⟨S128x196x768, .f32⟩
  | 79 => ⟨S128x196x768, .f32⟩
  | 80 => ⟨S_, .f32⟩
  | 81 => ⟨S128x196x768, .f32⟩
  | 82 => ⟨S128x196x768, .f32⟩
  | 83 => ⟨S_, .f32⟩
  | 84 => ⟨S128x196x768, .f32⟩
  | 85 => ⟨S128x196x768, .f32⟩
  | 86 => ⟨S128x196x768, .f32⟩
  | 87 => ⟨S128x196x192, .f32⟩
  | 88 => ⟨S1x1x192, .f32⟩
  | 89 => ⟨S128x196x192, .f32⟩
  | 90 => ⟨S128x196x192, .f32⟩
  | 91 => ⟨S128x196x192, .f32⟩
  | 92 => ⟨S_, .f32⟩
  | 93 => ⟨S128x192, .f32⟩
  | 94 => ⟨S_, .f32⟩
  | 95 => ⟨S128x192, .f32⟩
  | 96 => ⟨S128x192, .f32⟩
  | 97 => ⟨S128x1024, .f32⟩
  | 98 => ⟨S1x1024, .f32⟩
  | 99 => ⟨S128x1024, .f32⟩
  | 100 => ⟨S128x1024, .f32⟩
  | 101 => ⟨S128x1024, .f32⟩
  | 102 => ⟨S128x1024, .f32⟩
  | 103 => ⟨S_, .f32⟩
  | 104 => ⟨S128x1024, .f32⟩
  | 105 => ⟨S128x1024, .f32⟩
  | 106 => ⟨S128x1024, .f32⟩
  | 107 => ⟨S_, .f32⟩
  | 108 => ⟨S128x1024, .f32⟩
  | 109 => ⟨S128x1024, .f32⟩
  | 110 => ⟨S128x1024, .f32⟩
  | 111 => ⟨S_, .f32⟩
  | 112 => ⟨S128x1024, .f32⟩
  | 113 => ⟨S128x1024, .f32⟩
  | 114 => ⟨S_, .f32⟩
  | 115 => ⟨S128x1024, .f32⟩
  | 116 => ⟨S128x1024, .f32⟩
  | 117 => ⟨S128x1024, .f32⟩
  | 118 => ⟨S128x10, .f32⟩
  | 119 => ⟨S1x10, .f32⟩
  | 120 => ⟨S128x10, .f32⟩
  | 121 => ⟨S128x10, .f32⟩
  | _ => ⟨S128x3x32x32, .f32⟩

abbrev hbmTy (i : Nat) : BufTy := match i / 128 with
  | 0 => hbmTy0_0 i
  | 1 => hbmTy0_1 i
  | _ => ⟨S128x3x32x32, .f32⟩

abbrev bufTy : (tb : Table) → Fin (tcTables nBuf tb) → BufTy
  | .hbm, ⟨i, _⟩ => hbmTy i
  | _, _ => ⟨S128x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_cst : Ref sig .tc := ⟨.hbm, 13, rfl⟩
abbrev main_call0_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_cst_1 : Ref sig .tc := ⟨.hbm, 17, rfl⟩
abbrev main_call0_v2 : Ref sig .tc := ⟨.hbm, 18, rfl⟩
abbrev main_call0_v3 : Ref sig .tc := ⟨.hbm, 19, rfl⟩
abbrev main_call0_cst_2 : Ref sig .tc := ⟨.hbm, 20, rfl⟩
abbrev main_call0_v4 : Ref sig .tc := ⟨.hbm, 21, rfl⟩
abbrev main_call0_v5 : Ref sig .tc := ⟨.hbm, 22, rfl⟩
abbrev main_call0_cst_3 : Ref sig .tc := ⟨.hbm, 23, rfl⟩
abbrev main_call0_v6 : Ref sig .tc := ⟨.hbm, 24, rfl⟩
abbrev main_call0_v7 : Ref sig .tc := ⟨.hbm, 25, rfl⟩
abbrev main_call0_cst_4 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_cst_5 : Ref sig .tc := ⟨.hbm, 40, rfl⟩
abbrev main_call0_v21 : Ref sig .tc := ⟨.hbm, 41, rfl⟩
abbrev main_call0_v22 : Ref sig .tc := ⟨.hbm, 42, rfl⟩
abbrev main_call0_cst_6 : Ref sig .tc := ⟨.hbm, 43, rfl⟩
abbrev main_call0_v23 : Ref sig .tc := ⟨.hbm, 44, rfl⟩
abbrev main_call0_v24 : Ref sig .tc := ⟨.hbm, 45, rfl⟩
abbrev main_call0_cst_7 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_cst_8 : Ref sig .tc := ⟨.hbm, 50, rfl⟩
abbrev main_call0_v28 : Ref sig .tc := ⟨.hbm, 51, rfl⟩
abbrev main_call0_v29 : Ref sig .tc := ⟨.hbm, 52, rfl⟩
abbrev main_call0_cst_9 : Ref sig .tc := ⟨.hbm, 53, rfl⟩
abbrev main_call0_v30 : Ref sig .tc := ⟨.hbm, 54, rfl⟩
abbrev main_call0_v31 : Ref sig .tc := ⟨.hbm, 55, rfl⟩
abbrev main_call0_c : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_v32 : Ref sig .tc := ⟨.hbm, 59, rfl⟩
abbrev main_call0_v33 : Ref sig .tc := ⟨.hbm, 60, rfl⟩
abbrev main_call0_v34 : Ref sig .tc := ⟨.hbm, 61, rfl⟩
abbrev main_call0_c_10 : Ref sig .tc := ⟨.hbm, 62, rfl⟩
abbrev main_call0_call1_v0 : Ref sig .tc := ⟨.hbm, 63, rfl⟩
abbrev main_call0_call1_v1 : Ref sig .tc := ⟨.hbm, 64, rfl⟩
abbrev main_call0_call1_v2 : Ref sig .tc := ⟨.hbm, 65, rfl⟩
abbrev main_call0_v35 : Ref sig .tc := ⟨.hbm, 66, rfl⟩
abbrev main_call0_cst_11 : Ref sig .tc := ⟨.hbm, 67, rfl⟩
abbrev main_call0_v36 : Ref sig .tc := ⟨.hbm, 68, rfl⟩
abbrev main_call0_v37 : Ref sig .tc := ⟨.hbm, 69, rfl⟩
abbrev main_call0_cst_12 : Ref sig .tc := ⟨.hbm, 70, rfl⟩
abbrev main_call0_v38 : Ref sig .tc := ⟨.hbm, 71, rfl⟩
abbrev main_call0_v39 : Ref sig .tc := ⟨.hbm, 72, rfl⟩
abbrev main_call0_v40 : Ref sig .tc := ⟨.hbm, 73, rfl⟩
abbrev main_call0_v41 : Ref sig .tc := ⟨.hbm, 74, rfl⟩
abbrev main_call0_c_13 : Ref sig .tc := ⟨.hbm, 75, rfl⟩
abbrev main_call0_call2_v0 : Ref sig .tc := ⟨.hbm, 76, rfl⟩
abbrev main_call0_call2_v1 : Ref sig .tc := ⟨.hbm, 77, rfl⟩
abbrev main_call0_call2_v2 : Ref sig .tc := ⟨.hbm, 78, rfl⟩
abbrev main_call0_v42 : Ref sig .tc := ⟨.hbm, 79, rfl⟩
abbrev main_call0_cst_14 : Ref sig .tc := ⟨.hbm, 80, rfl⟩
abbrev main_call0_cst_15 : Ref sig .tc := ⟨.hbm, 81, rfl⟩
abbrev main_call0_v43 : Ref sig .tc := ⟨.hbm, 82, rfl⟩
abbrev main_call0_v44 : Ref sig .tc := ⟨.hbm, 83, rfl⟩
abbrev main_call0_cst_16 : Ref sig .tc := ⟨.hbm, 84, rfl⟩
abbrev main_call0_v45 : Ref sig .tc := ⟨.hbm, 85, rfl⟩
abbrev main_call0_v46 : Ref sig .tc := ⟨.hbm, 86, rfl⟩
abbrev main_call0_cst_17 : Ref sig .tc := ⟨.hbm, 87, rfl⟩
abbrev main_call0_v47 : Ref sig .tc := ⟨.hbm, 88, rfl⟩
abbrev main_call0_v48 : Ref sig .tc := ⟨.hbm, 89, rfl⟩
abbrev main_call0_cst_18 : Ref sig .tc := ⟨.hbm, 90, rfl⟩
abbrev main_call0_v49 : Ref sig .tc := ⟨.hbm, 91, rfl⟩
abbrev main_call0_v50 : Ref sig .tc := ⟨.hbm, 92, rfl⟩
abbrev main_call0_cst_19 : Ref sig .tc := ⟨.hbm, 93, rfl⟩
abbrev main_call0_v51 : Ref sig .tc := ⟨.hbm, 94, rfl⟩
abbrev main_call0_v52 : Ref sig .tc := ⟨.hbm, 95, rfl⟩
abbrev main_call0_v53 : Ref sig .tc := ⟨.hbm, 96, rfl⟩
abbrev main_call0_v54 : Ref sig .tc := ⟨.hbm, 97, rfl⟩
abbrev main_call0_v55 : Ref sig .tc := ⟨.hbm, 98, rfl⟩
abbrev main_call0_v56 : Ref sig .tc := ⟨.hbm, 99, rfl⟩
abbrev main_call0_v57 : Ref sig .tc := ⟨.hbm, 100, rfl⟩
abbrev main_call0_v58 : Ref sig .tc := ⟨.hbm, 101, rfl⟩
abbrev main_call0_v59 : Ref sig .tc := ⟨.hbm, 102, rfl⟩
abbrev main_call0_v60 : Ref sig .tc := ⟨.hbm, 103, rfl⟩
abbrev main_call0_v61 : Ref sig .tc := ⟨.hbm, 104, rfl⟩
abbrev main_call0_v62 : Ref sig .tc := ⟨.hbm, 105, rfl⟩
abbrev main_call0_v63 : Ref sig .tc := ⟨.hbm, 106, rfl⟩
abbrev main_call0_cst_20 : Ref sig .tc := ⟨.hbm, 107, rfl⟩
abbrev main_call0_v64 : Ref sig .tc := ⟨.hbm, 108, rfl⟩
abbrev main_call0_v65 : Ref sig .tc := ⟨.hbm, 109, rfl⟩
abbrev main_call0_cst_21 : Ref sig .tc := ⟨.hbm, 110, rfl⟩
abbrev main_call0_v66 : Ref sig .tc := ⟨.hbm, 111, rfl⟩
abbrev main_call0_v67 : Ref sig .tc := ⟨.hbm, 112, rfl⟩
abbrev main_call0_cst_22 : Ref sig .tc := ⟨.hbm, 113, rfl⟩
abbrev main_call0_v68 : Ref sig .tc := ⟨.hbm, 114, rfl⟩
abbrev main_call0_v69 : Ref sig .tc := ⟨.hbm, 115, rfl⟩
abbrev main_call0_v70 : Ref sig .tc := ⟨.hbm, 116, rfl⟩
abbrev main_call0_cst_23 : Ref sig .tc := ⟨.hbm, 117, rfl⟩
abbrev main_call0_v71 : Ref sig .tc := ⟨.hbm, 118, rfl⟩
abbrev main_call0_v72 : Ref sig .tc := ⟨.hbm, 119, rfl⟩
abbrev main_call0_cst_24 : Ref sig .tc := ⟨.hbm, 120, rfl⟩
abbrev main_call0_v73 : Ref sig .tc := ⟨.hbm, 121, rfl⟩
abbrev main_call0_v74 : Ref sig .tc := ⟨.hbm, 122, rfl⟩
abbrev main_call0_c_25 : Ref sig .tc := ⟨.hbm, 123, rfl⟩
abbrev main_call0_call3_v0 : Ref sig .tc := ⟨.hbm, 124, rfl⟩
abbrev main_call0_call3_v1 : Ref sig .tc := ⟨.hbm, 125, rfl⟩
abbrev main_call0_v75 : Ref sig .tc := ⟨.hbm, 126, rfl⟩
abbrev main_call0_v76 : Ref sig .tc := ⟨.hbm, 127, rfl⟩
abbrev main_call0_v77 : Ref sig .tc := ⟨.hbm, 128, rfl⟩
abbrev main_call0_c_26 : Ref sig .tc := ⟨.hbm, 129, rfl⟩
abbrev main_call0_call4_v0 : Ref sig .tc := ⟨.hbm, 130, rfl⟩
abbrev main_call0_call4_v1 : Ref sig .tc := ⟨.hbm, 131, rfl⟩
abbrev main_call0_call4_v2 : Ref sig .tc := ⟨.hbm, 132, rfl⟩
abbrev main_call0_v78 : Ref sig .tc := ⟨.hbm, 133, rfl⟩
abbrev main_call0_cst_27 : Ref sig .tc := ⟨.hbm, 134, rfl⟩
abbrev main_call0_v79 : Ref sig .tc := ⟨.hbm, 135, rfl⟩
abbrev main_call0_v80 : Ref sig .tc := ⟨.hbm, 136, rfl⟩
abbrev main_call0_cst_28 : Ref sig .tc := ⟨.hbm, 137, rfl⟩
abbrev main_call0_v81 : Ref sig .tc := ⟨.hbm, 138, rfl⟩
abbrev main_call0_v82 : Ref sig .tc := ⟨.hbm, 139, rfl⟩
abbrev main_call0_v83 : Ref sig .tc := ⟨.hbm, 140, rfl⟩
abbrev main_call0_v84 : Ref sig .tc := ⟨.hbm, 141, rfl⟩
abbrev main_call0_c_29 : Ref sig .tc := ⟨.hbm, 142, rfl⟩
abbrev main_call0_call5_v0 : Ref sig .tc := ⟨.hbm, 143, rfl⟩
abbrev main_call0_call5_v1 : Ref sig .tc := ⟨.hbm, 144, rfl⟩
abbrev main_call0_call5_v2 : Ref sig .tc := ⟨.hbm, 145, rfl⟩
abbrev main_call0_v85 : Ref sig .tc := ⟨.hbm, 146, rfl⟩
abbrev main_call0_v86 : Ref sig .tc := ⟨.hbm, 147, rfl⟩
abbrev main_call0_v87 : Ref sig .tc := ⟨.hbm, 148, rfl⟩
abbrev main_v0 : Ref sig .tc := ⟨.hbm, 149, rfl⟩
abbrev main_v1 : Ref sig .tc := ⟨.hbm, 150, rfl⟩
abbrev main_v2 : Ref sig .tc := ⟨.hbm, 151, rfl⟩
abbrev main_v3 : Ref sig .tc := ⟨.hbm, 152, rfl⟩
abbrev main_v4 : Ref sig .tc := ⟨.hbm, 153, rfl⟩
abbrev main_v5 : Ref sig .tc := ⟨.hbm, 154, rfl⟩
abbrev main_v6 : Ref sig .tc := ⟨.hbm, 155, rfl⟩
abbrev main_v7 : Ref sig .tc := ⟨.hbm, 156, rfl⟩
abbrev main_v8 : Ref sig .tc := ⟨.hbm, 157, rfl⟩
abbrev main_cst : Ref sig .tc := ⟨.hbm, 158, rfl⟩
abbrev main_v9 : Ref sig .tc := ⟨.hbm, 159, rfl⟩
abbrev main_v10 : Ref sig .tc := ⟨.hbm, 160, rfl⟩
abbrev main_v11 : Ref sig .tc := ⟨.hbm, 161, rfl⟩
abbrev main_v12 : Ref sig .tc := ⟨.hbm, 162, rfl⟩
abbrev main_v13 : Ref sig .tc := ⟨.hbm, 163, rfl⟩
abbrev main_v14 : Ref sig .tc := ⟨.hbm, 164, rfl⟩
abbrev main_v15 : Ref sig .tc := ⟨.hbm, 165, rfl⟩
abbrev main_v16 : Ref sig .tc := ⟨.hbm, 166, rfl⟩
abbrev main_cst_0 : Ref sig .tc := ⟨.hbm, 167, rfl⟩
abbrev main_v17 : Ref sig .tc := ⟨.hbm, 168, rfl⟩
abbrev main_v18 : Ref sig .tc := ⟨.hbm, 169, rfl⟩
abbrev main_v19 : Ref sig .tc := ⟨.hbm, 170, rfl⟩
abbrev main_v20 : Ref sig .tc := ⟨.hbm, 171, rfl⟩
abbrev main_values : Ref sig .tc := ⟨.hbm, 172, rfl⟩
abbrev main_indices : Ref sig .tc := ⟨.hbm, 173, rfl⟩
abbrev main_c : Ref sig .tc := ⟨.hbm, 174, rfl⟩
abbrev main_v21 : Ref sig .tc := ⟨.hbm, 175, rfl⟩
abbrev main_v22 : Ref sig .tc := ⟨.hbm, 176, rfl⟩
abbrev main_c_1 : Ref sig .tc := ⟨.hbm, 177, rfl⟩
abbrev main_v23 : Ref sig .tc := ⟨.hbm, 178, rfl⟩
abbrev main_v24 : Ref sig .tc := ⟨.hbm, 179, rfl⟩
abbrev main_v25 : Ref sig .tc := ⟨.hbm, 180, rfl⟩
abbrev main_v26 : Ref sig .tc := ⟨.hbm, 181, rfl⟩
abbrev main_v27 : Ref sig .tc := ⟨.hbm, 182, rfl⟩
abbrev main_v28 : Ref sig .tc := ⟨.hbm, 183, rfl⟩
abbrev main_v29 : Ref sig .tc := ⟨.hbm, 184, rfl⟩
abbrev main_v30 : Ref sig .tc := ⟨.hbm, 185, rfl⟩
abbrev main_cst_2 : Ref sig .tc := ⟨.hbm, 186, rfl⟩
abbrev main_v31 : Ref sig .tc := ⟨.hbm, 187, rfl⟩
abbrev main_v32 : Ref sig .tc := ⟨.hbm, 188, rfl⟩
abbrev main_v33 : Ref sig .tc := ⟨.hbm, 189, rfl⟩
abbrev main_v34 : Ref sig .tc := ⟨.hbm, 190, rfl⟩
abbrev main_v35 : Ref sig .tc := ⟨.hbm, 191, rfl⟩
abbrev main_v36 : Ref sig .tc := ⟨.hbm, 192, rfl⟩
abbrev main_v37 : Ref sig .tc := ⟨.hbm, 193, rfl⟩
abbrev main_v38 : Ref sig .tc := ⟨.hbm, 194, rfl⟩
abbrev main_v39 : Ref sig .tc := ⟨.hbm, 195, rfl⟩
abbrev main_v40 : Ref sig .tc := ⟨.hbm, 196, rfl⟩
abbrev main_v41 : Ref sig .tc := ⟨.hbm, 197, rfl⟩
abbrev main_v42 : Ref sig .tc := ⟨.hbm, 198, rfl⟩
abbrev main_v43 : Ref sig .tc := ⟨.hbm, 199, rfl⟩
abbrev main_cst_3 : Ref sig .tc := ⟨.hbm, 200, rfl⟩
abbrev main_v44 : Ref sig .tc := ⟨.hbm, 201, rfl⟩
abbrev main_v45 : Ref sig .tc := ⟨.hbm, 202, rfl⟩
abbrev main_v46 : Ref sig .tc := ⟨.hbm, 203, rfl⟩
abbrev main_cst_4 : Ref sig .tc := ⟨.hbm, 204, rfl⟩
abbrev main_v47 : Ref sig .tc := ⟨.hbm, 205, rfl⟩
abbrev main_v48 : Ref sig .tc := ⟨.hbm, 206, rfl⟩
abbrev main_v49 : Ref sig .tc := ⟨.hbm, 207, rfl⟩
abbrev main_cst_5 : Ref sig .tc := ⟨.hbm, 208, rfl⟩
abbrev main_v50 : Ref sig .tc := ⟨.hbm, 209, rfl⟩
abbrev main_v51 : Ref sig .tc := ⟨.hbm, 210, rfl⟩
abbrev main_cst_6 : Ref sig .tc := ⟨.hbm, 211, rfl⟩
abbrev main_v52 : Ref sig .tc := ⟨.hbm, 212, rfl⟩
abbrev main_v53 : Ref sig .tc := ⟨.hbm, 213, rfl⟩
abbrev main_v54 : Ref sig .tc := ⟨.hbm, 214, rfl⟩
abbrev main_v55 : Ref sig .tc := ⟨.hbm, 215, rfl⟩
abbrev main_v56 : Ref sig .tc := ⟨.hbm, 216, rfl⟩
abbrev main_v57 : Ref sig .tc := ⟨.hbm, 217, rfl⟩
abbrev main_v58 : Ref sig .tc := ⟨.hbm, 218, rfl⟩
abbrev main_v59 : Ref sig .tc := ⟨.hbm, 219, rfl⟩
abbrev main_cst_7 : Ref sig .tc := ⟨.hbm, 220, rfl⟩
abbrev main_v60 : Ref sig .tc := ⟨.hbm, 221, rfl⟩
abbrev main_cst_8 : Ref sig .tc := ⟨.hbm, 222, rfl⟩
abbrev main_v61 : Ref sig .tc := ⟨.hbm, 223, rfl⟩
abbrev main_v62 : Ref sig .tc := ⟨.hbm, 224, rfl⟩
abbrev main_v63 : Ref sig .tc := ⟨.hbm, 225, rfl⟩
abbrev main_v64 : Ref sig .tc := ⟨.hbm, 226, rfl⟩
abbrev main_v65 : Ref sig .tc := ⟨.hbm, 227, rfl⟩
abbrev main_v66 : Ref sig .tc := ⟨.hbm, 228, rfl⟩
abbrev main_v67 : Ref sig .tc := ⟨.hbm, 229, rfl⟩
abbrev main_v68 : Ref sig .tc := ⟨.hbm, 230, rfl⟩
abbrev main_cst_9 : Ref sig .tc := ⟨.hbm, 231, rfl⟩
abbrev main_v69 : Ref sig .tc := ⟨.hbm, 232, rfl⟩
abbrev main_v70 : Ref sig .tc := ⟨.hbm, 233, rfl⟩
abbrev main_v71 : Ref sig .tc := ⟨.hbm, 234, rfl⟩
abbrev main_cst_10 : Ref sig .tc := ⟨.hbm, 235, rfl⟩
abbrev main_v72 : Ref sig .tc := ⟨.hbm, 236, rfl⟩
abbrev main_v73 : Ref sig .tc := ⟨.hbm, 237, rfl⟩
abbrev main_v74 : Ref sig .tc := ⟨.hbm, 238, rfl⟩
abbrev main_cst_11 : Ref sig .tc := ⟨.hbm, 239, rfl⟩
abbrev main_v75 : Ref sig .tc := ⟨.hbm, 240, rfl⟩
abbrev main_v76 : Ref sig .tc := ⟨.hbm, 241, rfl⟩
abbrev main_cst_12 : Ref sig .tc := ⟨.hbm, 242, rfl⟩
abbrev main_v77 : Ref sig .tc := ⟨.hbm, 243, rfl⟩
abbrev main_v78 : Ref sig .tc := ⟨.hbm, 244, rfl⟩
abbrev main_v79 : Ref sig .tc := ⟨.hbm, 245, rfl⟩
abbrev main_v80 : Ref sig .tc := ⟨.hbm, 246, rfl⟩
abbrev main_v81 : Ref sig .tc := ⟨.hbm, 247, rfl⟩
abbrev main_v82 : Ref sig .tc := ⟨.hbm, 248, rfl⟩
abbrev main_v83 : Ref sig .tc := ⟨.hbm, 249, rfl⟩

abbrev nD : Nat := 1
abbrev τ : Topo := Topo.v7x

variable {F : FTy → Type} [FloatOps F]
-- ==== Proof.Run.lean ====
/-  The whole run of the kernel's program: it ends with the result array at the value the last launch leaves, and with
    the arguments unchanged. -/
module

public import proofs.«01_k».proof.Proof.Gen.KernelIdeal.Frame

@[expose] public section

set_option maxRecDepth 16384

noncomputable section

namespace Cert.Proof.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

set_option backward.isDefEq.respectTransparency.types false in
/-- The run ends with the result as the last launch leaves it, the arguments as launched, every counter at zero. -/
theorem value_run : θ_run defs (onTc (τ := τ) (main (F := F))) ⟨m, fun _ => 0, ρ⟩ (fun r => (∀ c : Dev nD,
      r.2.mem ((c.tc : Thread nD τ).loc main_v219) = W14 m ρ c (Proc.devRef .tc main_v219)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v219 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c)⟩), funext fun g => hz g (.inr (no_unscoped g.2))⟩)

end Cert.Proof.Run
-- ==== Proof.Selection.lean ====
/-  Choosing the nearest one after the other. The positions of finite keys in stable order are met again by a loop that
    takes the first of the least keys and puts it out of the running: what the loop takes at its round `t` is the
    position that stands at place `t` of the order. -/
module

public import Idealize.ShloMosaic.Lib.Pipeline.ValueKit
public import Idealize.ShloMosaic.Lib.SortFacts

@[expose] public section

noncomputable section

namespace Cert.Proof.Selection

open Idealize.ShloMosaic

/-- A stable sort of an increasing list asks only whether a later element stands before an earlier one. -/
theorem stableSort_later {n : ℕ} (R R' : Fin n → Fin n → Bool) (h : ∀ a b, a < b → R b a = R' b a)
    (l : List (Fin n)) (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_later {n : ℕ} (R R' : Fin n → Fin n → Bool) (h : ∀ a b, a < b → R b a = R' b a) :
    sortedFrom R = sortedFrom R' := by
  have hs : sortPositions n R = sortPositions n R' := stableSort_later R R' h _ (List.pairwise_lt_finRange n)
  funext k
  unfold sortedFrom
  rw [List.get_of_eq hs]
  rfl

/-- The positions of the keys `f` from the least on, equal keys in the order of their positions. -/
def order {n : ℕ} (f : Fin n → EReal) : Fin n → Fin n := sortedFrom fun a b => decide (f a < f b)

/-- A later position of the order has no smaller key, and on equal keys it lies behind. -/
theorem order_le {n : ℕ} (f : Fin n → EReal) (t u : Fin n) (htu : t < u) :
    f (order f t) ≤ f (order f u) ∧ (f (order f t) = f (order f u) → order f t < order f u) := by
  have hne : order f t ≠ order f u := fun h => htu.ne (sortedFrom_injective _ h)
  have hlex : order f = sortedFrom fun a b => decide (f a < f b ∨ (f a = f b ∧ a < b)) :=
    sortedFrom_later _ _ fun a b hab => by
      simp only [decide_eq_decide]
      exact ⟨Or.inl, fun h => h.elim id fun h => absurd h.2 (lt_asymm hab)⟩
  have hB := sortedFrom_noInversion (fun a b : Fin n => decide (f a < f b ∨ (f a = f b ∧ a < b)))
    (fun a b => decide (f a < f b ∨ (f a = f b ∧ a < b)))
    (fun a b h => by
      simp only [decide_eq_true_eq, decide_eq_false_iff_not] at h ⊢
      rintro (h' | h') <;> rcases h with h | h
      · exact lt_asymm h h'
      · exact absurd h.1 h'.ne'
      · exact absurd h'.1 h.ne'
      · exact lt_asymm h.2 h'.2)
    (fun _ _ h => h)
    (fun a b c hab hbc => by
      simp only [decide_eq_false_iff_not, not_or, not_and, not_lt] at hab hbc ⊢
      refine ⟨hbc.1.trans hab.1, fun hac => ?_⟩
      have h1 : f a = f b := le_antisymm (hac ▸ hbc.1) hab.1
      exact (hbc.2 (h1 ▸ hac)).trans (hab.2 h1)) t u htu
  rw [← hlex] at hB
  simp only [decide_eq_false_iff_not, not_or, not_and, not_lt] at hB
  exact ⟨hB.1, fun h => lt_of_le_of_ne (hB.2 h.symm) hne⟩

/-- The keys with the first `t` positions of the order out of the running. -/
def left {n : ℕ} (f : Fin n → EReal) (t : ℕ) (j : Fin n) : EReal :=
  open Classical in if ∃ s : Fin n, s.val < t ∧ order f s = j then ⊤ else f j

theorem left_zero {n : ℕ} (f : Fin n → EReal) : left f 0 = f := by
  funext j
  simp [left]

/-- Taking position `t` of the order out of the running. -/
theorem left_succ {n : ℕ} (f : Fin n → EReal) (t : Fin n) (j : Fin n) :
    left f (t.val + 1) j = if j = order f t then ⊤ else left f t.val j := by
  unfold left
  by_cases hj : j = order f t
  · rw [if_pos hj, if_pos ⟨t, Nat.lt_succ_self _, hj.symm⟩]
  · rw [if_neg hj]
    refine if_congr (exists_congr fun s => and_congr_left fun hs => ?_) rfl rfl
    refine ⟨fun h => lt_of_le_of_ne (Nat.lt_succ_iff.mp h) fun h' => hj ?_, fun h => h.trans (Nat.lt_succ_self _)⟩
    rw [← hs, Fin.ext h']

/-- Of the keys left in the running after `t` rounds, the first of the least is at position `t` of the order. -/
theorem left_least {n : ℕ} (f : Fin n → EReal) (hf : ∀ j, f j ≠ ⊤) (t : Fin n) :
    (∀ j, left f t.val (order f t) ≤ left f t.val j)
      ∧ ∀ j, j < order f t → left f t.val (order f t) < left f t.val j := by
  have ht : left f t.val (order f t) = f (order f t) :=
    if_neg fun ⟨s, hs, h⟩ => hs.ne (congrArg Fin.val (sortedFrom_injective _ h))
  have hu : ∀ u : Fin n, left f t.val (order f u) = if u < t then ⊤ else f (order f u) := fun u =>
    if_congr ⟨fun ⟨s, hs, h⟩ => (sortedFrom_injective _ h) ▸ hs, fun h => ⟨u, h, rfl⟩⟩ rfl rfl
  rw [ht]
  refine ⟨fun j => ?_, fun j hj => ?_⟩ <;> obtain ⟨u, rfl⟩ := sortedFrom_surjective (fun a b => decide (f a < f b)) j
  · refine le_of_le_of_eq ?_ (hu u).symm
    split
    · exact le_top
    · rename_i h
      rcases eq_or_lt_of_le (not_lt.mp h) with h | h
      · rw [h]
      · exact (order_le f t u h).1
  · refine lt_of_lt_of_eq ?_ (hu u).symm
    split
    · exact lt_of_le_of_ne le_top (hf _)
    · rename_i h
      rcases eq_or_lt_of_le (not_lt.mp h) with h | h
      · exact absurd hj (by rw [h]; exact lt_irrefl (order f u))
      · exact lt_of_le_of_ne (order_le f t u h).1 fun h' => lt_asymm hj ((order_le f t u h).2 h')

/-- The least of a set of numbers with a least member. -/
theorem min_getD (s : Finset ℕ) (p : ℕ) (hp : p ∈ s) (h : ∀ q ∈ s, p ≤ q) : s.min.getD 0 = p := by
  have : s.min = (p : WithTop ℕ) :=
    le_antisymm (Finset.min_le hp) (Finset.le_min fun q hq => WithTop.coe_le_coe.mpr (h q hq))
  rw [this]
  rfl

/-- The place of the first least of a column. -/
theorem reduceIndex_column {m n : ℕ} (h : (⟨2, ![m, n]⟩ : Shape).Reduces [0] ⟨1, ![n]⟩)
    (x : (⟨2, ![m, n]⟩ : Shape).Idx → EReal) (k : Fin n) (p : Fin m) (h1 : ∀ j, x (ix2 p k) ≤ x (ix2 j k))
    (h2 : ∀ j, j < p → x (ix2 p k) < x (ix2 j k)) :
    Ideal.reduceIndex .argMin 0 h x (ix1 k) = BitVec.ofNat 32 p.val := by
  have hd : ∀ i : (⟨2, ![m, n]⟩ : Shape).Idx, h.drop i = ix1 k ↔ i 1 = k := fun i => by
    rw [Shape.Reduces.fiber_r2_a0 h]
    exact ⟨fun ⟨a, ha⟩ => by rw [← ha]; rfl, fun hk => ⟨i 0, by rw [eq_ix2 i, ← hk]; rfl⟩⟩
  unfold Ideal.reduceIndex
  dsimp only
  rw [min_getD _ p.val]
  · simp only [Finset.mem_image, Finset.mem_filter, Finset.mem_univ, true_and, hd]
    refine ⟨ix2 p k, ⟨rfl, fun i hi => ?_⟩, rfl⟩
    rw [eq_ix2 i, show i 1 = k from hi]
    simpa using h1 (i 0)
  · simp only [Finset.mem_image, Finset.mem_filter, Finset.mem_univ, true_and, hd]
    rintro q ⟨i, ⟨hi, hm⟩, rfl⟩
    by_contra hq
    have hlt : x (ix2 p k) < x (ix2 (i 0) k) := h2 (i 0) (not_le.mp hq)
    refine hm (ix2 p k) rfl ?_
    rw [eq_ix2 i, show i 1 = k from hi]
    simpa using hlt

end Cert.Proof.Selection
-- ==== Proof.Net.lean ====
/-  The network after its embedding, for one image, in sums over node and feature numbers: the nine nearest nodes, the
    greatest differences to them, the graph convolution, the feed-forward pair, the mean over the nodes and the head. -/
module

public import proofs.«01_k».proof.Proof.Selection

@[expose] public section

noncomputable section

namespace Cert.Proof.Net

open Idealize.ShloMosaic Cert.Proof.Selection

theorem exists_ix2 {a b : ℕ} (i : (⟨2, ![a, b]⟩ : Shape).Idx) : ∃ (x : Fin a) (y : Fin b), i = ix2 x y :=
  ⟨i 0, i 1, eq_ix2 i⟩

theorem exists_ix3 {a b c : ℕ} (i : (⟨3, ![a, b, c]⟩ : Shape).Idx) :
    ∃ (x : Fin a) (y : Fin b) (z : Fin c), i = ix3 x y z := ⟨i 0, i 1, i 2, eq_ix3 i⟩

theorem exists_ix4 {a b c d : ℕ} (i : (⟨4, ![a, b, c, d]⟩ : Shape).Idx) :
    ∃ (x : Fin a) (y : Fin b) (z : Fin c) (w : Fin d), i = ix4 x y z w := ⟨i 0, i 1, i 2, i 3, eq_ix4 i⟩

/-- How far node `j` is from node `i`: the squared distance of the two less the squared length of `i`. -/
def key (h : Fin 196 → Fin 192 → EReal) (i j : Fin 196) : EReal :=
  (∑ c, h j c * h j c) - Ideal.ofBits .f32 0x40000000#32 * ∑ c, h j c * h i c

/-- The node at place `t` of the order by distance from `i`. -/
def near (h : Fin 196 → Fin 192 → EReal) (i t : Fin 196) : Fin 196 := order (key h i) t

/-- The greatest value of feature `c` among the first `n` nodes from `i` on. -/
def top (h : Fin 196 → Fin 192 → EReal) (n : ℕ) (i : Fin 196) (c : Fin 192) : EReal :=
  (Finset.univ.filter fun t : Fin 196 => t.val < n).sup fun t => h (near h i t) c

/-- The nodes' features after the graph convolution and its residual; `wg1` and `wg2` are the upper and the lower half
    of the weights. -/
def conv (h : Fin 196 → Fin 192 → EReal) (wg1 wg2 : Fin 192 → Fin 192 → EReal) (bg : Fin 192 → EReal) (i : Fin 196)
    (k : Fin 192) : EReal :=
  h i k + ((∑ c, h i c * wg1 c k + ∑ c, (top h 9 i c - h i c) * wg2 c k) + bg k)

/-- The activation. -/
def gelu (u : EReal) : EReal :=
  u * (Ideal.ofBits .f32 0x3F000000#32 * (1 + Ideal.tanh (Ideal.ofBits .f32 0x3F4C422A#32
    * (u + Ideal.ofBits .f32 0x3D372713#32 * (u * (u * u))))))

/-- A sum of products. -/
def dotp {n : ℕ} (x w : Fin n → EReal) : EReal := ∑ k, x k * w k

/-- A layer of `n` outputs. -/
def layer {m n : ℕ} (v : Fin m → EReal) (w : Fin m → Fin n → EReal) (b : Fin n → EReal) (k : Fin n) : EReal :=
  ∑ c, v c * w c k + b k

/-- The mean over the nodes after the feed-forward pair and its residual. -/
def pool (h2 : Fin 196 → Fin 192 → EReal) (w1 : Fin 192 → Fin 768 → EReal) (b1 : Fin 768 → EReal)
    (w2 : Fin 768 → Fin 192 → EReal) (b2 : Fin 192 → EReal) (c : Fin 192) : EReal :=
  Ideal.div (∑ i, (h2 i c + layer (fun k => gelu (layer (h2 i) w1 b1 k)) w2 b2 c)) (Ideal.ofBits .f32 0x43440000#32)

/-- The head. -/
def head (z : Fin 192 → EReal) (w1 : Fin 192 → Fin 1024 → EReal) (b1 : Fin 1024 → EReal)
    (w2 : Fin 1024 → Fin 10 → EReal) (b2 : Fin 10 → EReal) (o : Fin 10) : EReal :=
  layer (fun k => gelu (layer z w1 b1 k)) w2 b2 o

/-- A number that is no infinity. -/
def Num (x : EReal) : Prop := ∃ r : ℝ, x = (r : EReal)

namespace Num

theorem add {x y : EReal} : Num x → Num y → Num (x + y) := by
  rintro ⟨a, rfl⟩ ⟨b, rfl⟩; exact ⟨a + b, (EReal.coe_add a b).symm⟩

theorem sub {x y : EReal} : Num x → Num y → Num (x - y) := by
  rintro ⟨a, rfl⟩ ⟨b, rfl⟩; exact ⟨a - b, (EReal.coe_sub a b).symm⟩

theorem mul {x y : EReal} : Num x → Num y → Num (x * y) := by
  rintro ⟨a, rfl⟩ ⟨b, rfl⟩; exact ⟨a * b, (EReal.coe_mul a b).symm⟩

theorem neg {x : EReal} : Num x → Num (-x) := by
  rintro ⟨a, rfl⟩; exact ⟨-a, (EReal.coe_neg a).symm⟩

theorem max {x y : EReal} (hx : Num x) (hy : Num y) : Num (Max.max x y) := by
  rcases max_choice x y with h | h <;> rw [h] <;> assumption

theorem zero : Num 0 := ⟨0, EReal.coe_zero.symm⟩

theorem sum {ι : Type} (s : Finset ι) {f : ι → EReal} (hf : ∀ i, Num (f i)) : Num (∑ i ∈ s, f i) := by
  classical
  induction s using Finset.induction_on with
  | empty => simpa using zero
  | insert a s ha ih => rw [Finset.sum_insert ha]; exact add (hf a) ih

theorem ne_top {x : EReal} : Num x → x ≠ ⊤ := by
  rintro ⟨a, rfl⟩; exact EReal.coe_ne_top a

theorem ne_bot {x : EReal} : Num x → x ≠ ⊥ := by
  rintro ⟨a, rfl⟩; exact EReal.coe_ne_bot a

theorem of_ne {x : EReal} (h1 : x ≠ ⊤) (h2 : x ≠ ⊥) : Num x := ⟨x.toReal, (EReal.coe_toReal h1 h2).symm⟩

theorem div {x y : EReal} (hx : Num x) (hy : Num y) (h0 : y ≠ 0) : Num (Ideal.div x y) := by
  obtain ⟨b, rfl⟩ := hy
  rw [Ideal.div_coe (fun h => h0 (by rw [h]; rfl))]
  exact mul hx ⟨_, rfl⟩

end Num

/-- The printed 2 is a number. -/
theorem num_two : Num (Ideal.ofBits .f32 0x40000000#32) :=
  ⟨_, by simp only [Ideal.ofBits, Ideal.ieee]; rfl⟩

theorem key_num (h : Fin 196 → Fin 192 → EReal) (hf : ∀ i c, Num (h i c)) (i j : Fin 196) : Num (key h i j) :=
  .sub (.sum _ fun c => .mul (hf j c) (hf j c)) (.mul num_two (.sum _ fun c => .mul (hf j c) (hf i c)))

theorem top_zero (h : Fin 196 → Fin 192 → EReal) (i : Fin 196) (c : Fin 192) : top h 0 i c = ⊥ := by
  simp [top]

theorem top_succ (h : Fin 196 → Fin 192 → EReal) (t i : Fin 196) (c : Fin 192) :
    top h (t.val + 1) i c = max (top h t.val i c) (h (near h i t) c) := by
  have hs : (Finset.univ.filter fun s : Fin 196 => s.val < t.val + 1)
      = insert t (Finset.univ.filter fun s : Fin 196 => s.val < t.val) := by
    ext s
    simp only [Finset.mem_filter, Finset.mem_univ, true_and, Finset.mem_insert, Fin.ext_iff]
    omega
  unfold top
  rw [hs, Finset.sup_insert, max_comm]

end Cert.Proof.Net
-- ==== Proof.Finite.lean ====
/-  What the precondition says of the values: the images, the embedding's weights and its bias are finite. -/
module

public import proofs.«01_k».proof.Pre_distinct
public import proofs.«01_k».proof.Proof.Gen.Pre_distinct
public import proofs.«01_k».proof.Proof.Net
public import Idealize.ShloMosaic.Lib.ReduceAll

@[expose] public section

set_option maxRecDepth 16384

noncomputable section

namespace Cert.Proof.Finite

open Idealize.ShloMosaic Cert.Pre_distinct Cert.Pre_distinct.Facts Cert.Proof.Net

/-- An extended real whose absolute value is below infinity is a number. -/
theorem num_of_cmp (x : EReal) (h : Ideal.cmp .olt (max x (-x)) (Ideal.ofBits .f32 0x7F800000#32) = 1#1) : Num x := by
  have top : Ideal.ofBits .f32 0x7F800000#32 = (⊤ : EReal) := by simp [Ideal.ofBits, Ideal.ieee]
  have h' : max x (-x) < ⊤ := by
    rw [top] at h
    by_contra hn
    simp [Ideal.cmp, hn] at h
  refine Num.of_ne ?_ ?_ <;> rintro rfl <;> simp at h'

/-- The first part of the precondition, that decides finiteness alone. -/
def finite (x : FVec Ideal S128x3x32x32 .f32) (wp : FVec Ideal S768x192 .f32) (bp : FVec Ideal S192 .f32) : IVec S_ 1 :=
  andi (andi
    (Host.reduce IntOp.andi (cmpf .olt (Host.absf x) (broadcastInDim S128x3x32x32 ![] bcast_S_S128x3x32x32 (constant S_ .f32 0x7F800000#32)))
      (constantI S_ 1 1#1) reducesTo_S128x3x32x32_S_d0_1_2_3 h_S_)
    (Host.reduce IntOp.andi (cmpf .olt (Host.absf wp) (broadcastInDim S768x192 ![] bcast_S_S768x192 (constant S_ .f32 0x7F800000#32)))
      (constantI S_ 1 1#1) reducesTo_S768x192_S_d0_1 h_S_))
    (Host.reduce IntOp.andi (cmpf .olt (Host.absf bp) (broadcastInDim S192 ![] bcast_S_S192 (constant S_ .f32 0x7F800000#32)))
      (constantI S_ 1 1#1) reducesTo_S192_S_d0 h_S_)

/-- Where it holds, all three arrays are numbers. -/
theorem num_of_finite (x : FVec Ideal S128x3x32x32 .f32) (wp : FVec Ideal S768x192 .f32) (bp : FVec Ideal S192 .f32)
    (h : finite x wp bp ix0 = 1#1) : (∀ i, Num (x i)) ∧ (∀ i, Num (wp i)) ∧ ∀ i, Num (bp i) := by
  have : Subsingleton S_.Idx := ⟨fun a b => funext fun i => i.elim0⟩
  obtain ⟨h, hb⟩ := IntOp.andi_eq_one.1 h
  obtain ⟨hx, hw⟩ := IntOp.andi_eq_one.1 h
  exact ⟨fun i => num_of_cmp _ (Host.reduce_andi_all _ _ _ _ _ hx i), fun i => num_of_cmp _ (Host.reduce_andi_all _ _ _ _ _ hw i),
    fun i => num_of_cmp _ (Host.reduce_andi_all _ _ _ _ _ hb i)⟩

/-- The precondition entails its first part. -/
theorem finite_of_pre (x : FVec Ideal S128x3x32x32 .f32) (wp : FVec Ideal S768x192 .f32) (bp : FVec Ideal S192 .f32)
    (a3 : FVec Ideal S384x192 .f32) (a4 : FVec Ideal S192 .f32) (a5 : FVec Ideal S192x768 .f32) (a6 : FVec Ideal S768 .f32)
    (a7 : FVec Ideal S768x192 .f32) (a8 : FVec Ideal S192 .f32) (a9 : FVec Ideal S192x1024 .f32) (a10 : FVec Ideal S1024 .f32)
    (a11 : FVec Ideal S1024x10 .f32) (a12 : FVec Ideal S10 .f32)
    (h : fn (F := Ideal) x wp bp a3 a4 a5 a6 a7 a8 a9 a10 a11 a12 = fun _ => 1#1) : finite x wp bp ix0 = 1#1 := by
  have e := congrFun h (ix3 0 0 0)
  unfold fn fn_part1 fn_part2 fn_part3 fn_part4 fn_part5 at e
  have e' := (IntOp.andi_eq_one.1 e).1
  refine Eq.trans ?_ e'
  exact congrArg (finite x wp bp) (funext fun i => i.elim0)

end Cert.Proof.Finite
-- ==== Proof.HostReads.lean ====
/-  What the operations between the launches leave, read at an index: the reshaped, split and rounded arguments. -/
module

public import proofs.«01_k».proof.Proof.Gen.KernelIdeal.Frame
public import proofs.«01_k».proof.Proof.Net
public import Idealize.ShloMosaic.Lib.StableHlo.ReadAt
public import Idealize.ShloMosaic.Lib.Tactic.WordOmega

@[expose] public section

set_option maxRecDepth 16384

noncomputable section

namespace Cert.Proof.HostReads

open Idealize.ShloMosaic Idealize.ShloMosaic.TcCoe Cert.KernelIdeal Cert.KernelIdeal.Gen Cert.Proof.Net

variable (V : Valuation τ sig (Elt Ideal))

theorem pooled_at (b : Fin 128) (k : Fin 192) : StableHlo.after hostOps3 V (Proc.devRef .tc main_v216) (ix2 b k)
    = V (Proc.devRef .tc main_v215) (ix3 ⟨b.val / 4, by omega⟩ ⟨b.val % 4, by omega⟩ k) := by
  after_reads_at

theorem bh1_at (z : Fin 1) (k : Fin 1024) : StableHlo.after hostOps3 V (Proc.devRef .tc main_v217) (ix2 z k)
    = V (Proc.devRef .tc main_arg10) (ix1 k) := by
  after_reads_at

theorem bh2_at (z : Fin 1) (k : Fin 10) : StableHlo.after hostOps3 V (Proc.devRef .tc main_v218) (ix2 z k)
    = V (Proc.devRef .tc main_arg12) (ix1 k) := by
  after_reads_at

theorem nodes_at (b : Fin 128) (i : Fin 196) (k : Fin 192) :
    StableHlo.after hostOps2 V (Proc.devRef .tc main_v205) (ix3 b i k)
      = V (Proc.devRef .tc main_v204) (ix4 b ⟨i.val / 14, by omega⟩ ⟨i.val % 14, by omega⟩ k) := by
  after_reads_at

theorem wg1_at (c k : Fin 192) : StableHlo.after hostOps2 V (Proc.devRef .tc main_v207) (ix2 c k)
    = V (Proc.devRef .tc main_arg3) (ix2 ⟨c.val, by omega⟩ k) := by
  after_reads_at

theorem wg2_at (c k : Fin 192) : StableHlo.after hostOps2 V (Proc.devRef .tc main_v209) (ix2 c k)
    = V (Proc.devRef .tc main_arg3) (ix2 ⟨192 + c.val, by omega⟩ k) := by
  after_reads_at

theorem bg_at (z : Fin 1) (k : Fin 192) : StableHlo.after hostOps2 V (Proc.devRef .tc main_v210) (ix2 z k)
    = V (Proc.devRef .tc main_arg4) (ix1 k) := by
  after_reads_at

theorem w1_at (c : Fin 192) (k : Fin 768) : StableHlo.after hostOps2 V (Proc.devRef .tc main_v211) (ix2 c k)
    = V (Proc.devRef .tc main_arg5) (ix2 c k) := by
  after_reads_at

theorem b1_at (z : Fin 1) (k : Fin 768) : StableHlo.after hostOps2 V (Proc.devRef .tc main_v212) (ix2 z k)
    = V (Proc.devRef .tc main_arg6) (ix1 k) := by
  after_reads_at

theorem w2_at (c : Fin 768) (k : Fin 192) : StableHlo.after hostOps2 V (Proc.devRef .tc main_v213) (ix2 c k)
    = V (Proc.devRef .tc main_arg7) (ix2 c k) := by
  after_reads_at

theorem b2_at (z : Fin 1) (k : Fin 192) : StableHlo.after hostOps2 V (Proc.devRef .tc main_v214) (ix2 z k)
    = V (Proc.devRef .tc main_arg8) (ix1 k) := by
  after_reads_at

theorem images_at (r : Fin 12288) (w : Fin 32) : StableHlo.after hostOps0_6 V (Proc.devRef .tc main_v56) (ix2 r w)
    = V (Proc.devRef .tc main_arg0) (ix4 ⟨r.val / 96, by omega⟩ ⟨r.val / 32 % 3, by omega⟩ ⟨r.val % 32, by omega⟩ w) := by
  after_reads_at

theorem transposed_at (p : Fin 224) (i : Fin 32) : StableHlo.after hostOps0_6 V (Proc.devRef .tc main_v43) (ix2 p i)
    = V (Proc.devRef .tc main_v42) (ix2 i p) := by
  after_reads_at

/-- Column `p` of the result is the operand's column at the start index `p` names. -/
theorem gather_at {α : Type} (x : S32x224.Idx → α) (idx : IVec S224x1 32) (w : Fin 32) (p q : Fin 224)
    (hq : idx (ix2 p 0) = BitVec.ofNat 32 q.val) :
    Host.gather gather_S32x224_S224x1_S32x224_0_1_n_n_1_1_321 x idx (ix2 w p) = x (ix2 w q) := by
  unfold Host.gather
  refine congrArg x (funext fun a => Fin.ext ?_)
  match a with
  | ⟨0, _⟩ =>
    show GatherDims.start _ _ idx 0 + GatherDims.batchCoord _ _ 0 + GatherDims.offCoord _ _ 0 = w.val
    rw [GatherDims.batchCoord_eq_zero _ _ _ List.not_mem_nil]
    unfold GatherDims.start
    rw [dif_neg (by decide)]
    simp only [Nat.zero_add]
    rfl
  | ⟨1, _⟩ =>
    show GatherDims.start _ _ idx 1 + GatherDims.batchCoord _ _ 1 + GatherDims.offCoord _ _ 1 = q.val
    rw [GatherDims.batchCoord_eq_zero _ _ _ List.not_mem_nil, GatherDims.offCoord_eq_zero _ _ _ (by decide)]
    unfold GatherDims.start
    rw [dif_pos (by decide)]
    have hsi : gather_S32x224_S224x1_S32x224_0_1_n_n_1_1_321.siIdx (ix2 w p) ⟨List.idxOf (1 : Fin 2)
        gather_S32x224_S224x1_S32x224_0_1_n_n_1_1_321.startIndexMap, by decide⟩ = ix2 p 0 := by
      funext b; refine Fin.ext ?_
      match b with
      | ⟨0, _⟩ => rfl
      | ⟨1, _⟩ => rfl
    have hlt := q.isLt
    rw [hsi, hq]
    have h1 : (BitVec.ofNat 32 q.val).toInt.toNat = q.val := by
      rw [BitVec.toInt_eq_toNat_of_lt (by rw [BitVec.toNat_ofNat]; omega), BitVec.toNat_ofNat]; omega
    show min (BitVec.ofNat 32 q.val).toInt.toNat (224 - 1) + 0 + 0 = q.val
    rw [h1]; omega

theorem permuted_at (w : Fin 32) (p : Fin 224) : StableHlo.after hostOps0_6 V (Proc.devRef .tc main_v55) (ix2 w p)
    = V (Proc.devRef .tc main_v42) (ix2 w ⟨p.val % 14 * 16 + p.val / 14, by omega⟩) := by
  after_reads_at
  rw [gather_at _ _ w p ⟨p.val % 14 * 16 + p.val / 14, by omega⟩ ?_]
  · pointwise
  · pointwise
    have := p.isLt
    word_omega

theorem resized_at (b : Fin 128) (p : Fin 224) (q : Fin 96) :
    StableHlo.after hostOps1 V (Proc.devRef .tc main_v60) (ix3 b p q)
      = V (Proc.devRef .tc main_v57) (ix2 ⟨b.val * 96 + q.val, by omega⟩ p) := by
  after_reads_at
  exact congrArg (V (Proc.devRef .tc main_v57)) (congrArg (ix2 · p) (Fin.ext (by
    show b.val * 96 + q.val / 32 * 32 + q.val % 32 = b.val * 96 + q.val
    omega)))

theorem bias_at (z : Fin 1) (k : Fin 192) : StableHlo.after hostOps1 V (Proc.devRef .tc main_v203) (ix2 z k)
    = V (Proc.devRef .tc main_arg2) (ix1 k) := by
  after_reads_at

end Cert.Proof.HostReads
-- ==== Proof.FoldedWeights.lean ====
/-  The weights the second launch reads: for each patch row, the patch weights folded with the resize's weights along the
    height. -/
module

public import proofs.«01_k».proof.Proof.Gen.KernelIdeal.Frame
public import proofs.«01_k».proof.Proof.Net
public import Idealize.ShloMosaic.Lib.StableHlo.ReadAt

@[expose] public section

set_option maxRecDepth 16384

noncomputable section

namespace Cert.Proof.FoldedWeights

open Idealize.ShloMosaic Idealize.ShloMosaic.TcCoe Cert.KernelIdeal Cert.KernelIdeal.Gen Cert.Proof.Net

/-- One patch row's folded weights, from the resize's weights `r` and the patch weights `wp`. -/
def fold (r : FVec Ideal S224x32 .f32) (wp : FVec Ideal S768x192 .f32) (py : Fin 14) : FVec Ideal S1x1536x192 .f32 :=
  broadcastInDim S1x1536x192 ![1, 2] bcast_S1536x192_S1x1536x192_1_2 (shapeCast S1536x192
    (Host.reduceAdd (mulf
      (broadcastInDim S16x3x16x32x192 ![0, 1, 2, 3, 4] bcast_S1x1x16x32x1_S16x3x16x32x192_0_1_2_3_4
        (shapeCast S1x1x16x32x1 (extractStridedSlice S16x32 ![16 * py.val, 0] r
          ((by decide : ∀ py : Fin 14, S224x32.Slices ![16 * py.val, 0] S16x32) py) : FVec Ideal S16x32 .f32)
          shapeCasts_S16x32_S1x1x16x32x1 : FVec Ideal S1x1x16x32x1 .f32))
      (broadcastInDim S16x3x16x32x192 ![0, 1, 2, 3, 4] bcast_S16x3x16x1x192_S16x3x16x32x192_0_1_2_3_4
        (shapeCast S16x3x16x1x192 (transpose S16x3x16x192 [2, 0, 1, 3]
          (shapeCast S3x16x16x192 wp shapeCasts_S768x192_S3x16x16x192 : FVec Ideal S3x16x16x192 .f32)
          transposes_S3x16x16x192_S16x3x16x192_2_0_1_3 : FVec Ideal S16x3x16x192 .f32)
          shapeCasts_S16x3x16x192_S16x3x16x1x192 : FVec Ideal S16x3x16x1x192 .f32))
        : FVec Ideal S16x3x16x32x192 .f32)
      (constant S_ .f32 0x00000000#32) reducesTo_S16x3x16x32x192_S16x3x32x192_d2 h_S_ : FVec Ideal S16x3x32x192 .f32)
    shapeCasts_S16x3x32x192_S1536x192 : FVec Ideal S1536x192 .f32)

theorem fold_at (r : FVec Ideal S224x32 .f32) (wp : FVec Ideal S768x192 .f32) (py : Fin 14) (q : Fin 1536) (k : Fin 192) :
    fold r wp py (ix3 0 q k) = ∑ u : Fin 16, r (ix2 ⟨16 * py.val + u.val, by omega⟩ ⟨q.val % 32, by omega⟩)
      * wp (ix2 ⟨q.val / 32 % 3 * 256 + u.val * 16 + q.val / 96, by omega⟩ k) := by
  unfold fold
  pointwise

theorem rows : Shape.Concatenates ((List.ofFn fun _ : Fin 14 => S1x1536x192)) S14x1536x192 0 := by decide

/-- All patch rows' folded weights. -/
def folded (r : FVec Ideal S224x32 .f32) (wp : FVec Ideal S768x192 .f32) : FVec Ideal S14x1536x192 .f32 :=
  concatenate S14x1536x192 0
    (List.ofFn fun py : Fin 14 => (⟨S1x1536x192, fold r wp py⟩ : (s : Shape) × (s.Idx → EReal))) rows

theorem folded_at (r : FVec Ideal S224x32 .f32) (wp : FVec Ideal S768x192 .f32) (py : Fin 14) (q : Fin 1536) (k : Fin 192) :
    folded r wp (ix3 py q k) = ∑ u : Fin 16, r (ix2 ⟨16 * py.val + u.val, by omega⟩ ⟨q.val % 32, by omega⟩)
      * wp (ix2 ⟨q.val / 32 % 3 * 256 + u.val * 16 + q.val / 96, by omega⟩ k) := by
  refine (concatenate_ofFn_unit_apply 0 (fold r wp) rows rfl rfl _ py rfl (ix3 0 q k) fun b hb => ?_).trans
    (fold_at r wp py q k)
  match b, hb with
  | ⟨0, _⟩, hb => exact absurd rfl hb
  | ⟨1, _⟩, _ => rfl
  | ⟨2, _⟩, _ => rfl

set_option maxHeartbeats 4000000 in
/-- The weights as the operations before the second launch leave them. -/
theorem weights_eq (V : Valuation τ sig (Elt Ideal)) : StableHlo.after hostOps1 V (Proc.devRef .tc main_v202)
    = folded (V (Proc.devRef .tc main_v43)) (V (Proc.devRef .tc main_arg1)) := by
  after_reads_simp
  rfl

end Cert.Proof.FoldedWeights
-- ==== Proof.Weights.lean ====
/-  The weights of the bilinear resize from 32 points to 224, as both programs compute them, and that each is a number. -/
module

public import proofs.«01_k».proof.Proof.Gen.KernelIdeal.Frame
public import proofs.«01_k».proof.Proof.Net
public import Idealize.ShloMosaic.Lib.StableHlo.ReadAt

@[expose] public section

set_option maxRecDepth 16384

noncomputable section

namespace Cert.Proof.Weights

open Idealize.ShloMosaic Idealize.ShloMosaic.TcCoe Cert.KernelIdeal Cert.KernelIdeal.Gen Cert.Proof.Net

/-- Where each of the 224 points lies among the 32. -/
def position : FVec Ideal S224 .f32 :=
  subf (subf (mulf (addf (sitofp .f32 (iotaInDim S224 32 0) : FVec Ideal S224 .f32)
        (broadcastInDim S224 ![] bcast_S_S224 (constant S_ .f32 0x3F000000#32)))
      (broadcastInDim S224 ![] bcast_S_S224 (constant S_ .f32 0x3E124925#32)))
    (broadcastInDim S224 ![] bcast_S_S224 (constant S_ .f32 0x00000000#32)))
    (broadcastInDim S224 ![] bcast_S_S224 (constant S_ .f32 0x3F000000#32))

/-- How close each of the 32 points is to each of the 224: one less the distance, and never below zero. -/
def closeness : FVec Ideal S32x224 .f32 :=
  maximumf (broadcastInDim S32x224 ![] bcast_S_S32x224 (constant S_ .f32 0x00000000#32) : FVec Ideal S32x224 .f32)
    (subf (broadcastInDim S32x224 ![] bcast_S_S32x224 (constant S_ .f32 0x3F800000#32) : FVec Ideal S32x224 .f32)
      (Host.absf (Host.divf
        (Host.absf (subf
          (broadcastInDim S32x224 ![0, 1] bcast_S1x224_S32x224_0_1 (broadcastInDim S1x224 ![1] bcast_S224_S1x224_1 position))
          (broadcastInDim S32x224 ![0, 1] bcast_S32x1_S32x224_0_1 (broadcastInDim S32x1 ![0] bcast_S32_S32x1_0
            (sitofp .f32 (iotaInDim S32 32 0) : FVec Ideal S32 .f32))) : FVec Ideal S32x224 .f32))
        (broadcastInDim S32x224 ![] bcast_S_S32x224
          (id (maximumf (constant S_ .f32 0x3E124925#32) (constant S_ .f32 0x3F800000#32) : FVec Ideal S_ .f32))))))

/-- The closenesses of each of the 224 points, summed. -/
def total : FVec Ideal S1x224 .f32 :=
  broadcastInDim S1x224 ![1] bcast_S224_S1x224_1
    (Host.reduceAdd closeness (constant S_ .f32 0x00000000#32) reducesTo_S32x224_S224_d0 h_S_ : FVec Ideal S224 .f32)

/-- What each point's closenesses are divided by: their sum, or one where that is zero. -/
def divisor : FVec Ideal S1x224 .f32 :=
  select (cmpf .une total (broadcastInDim S1x224 ![] bcast_S_S1x224 (constant S_ .f32 0x00000000#32))) total
    (broadcastInDim S1x224 ![] bcast_S_S1x224 (sitofp .f32 (constantI S_ 32 1#32) : FVec Ideal S_ .f32))

/-- The weights. -/
def weights : FVec Ideal S32x224 .f32 :=
  select (broadcastInDim S32x224 ![0, 1] bcast_S1x224_S32x224_0_1 (broadcastInDim S1x224 ![1] bcast_S224_S1x224_1
      (andi (cmpf .oge position (broadcastInDim S224 ![] bcast_S_S224 (constant S_ .f32 0xBF000000#32)))
        (cmpf .ole position (broadcastInDim S224 ![] bcast_S_S224 (constant S_ .f32 0x41FC0000#32))))))
    (select (broadcastInDim S32x224 ![0, 1] bcast_S1x224_S32x224_0_1
        (cmpf .ogt (Host.absf total) (broadcastInDim S1x224 ![] bcast_S_S1x224 (constant S_ .f32 0x38FA0000#32))))
      (Host.divf closeness (broadcastInDim S32x224 ![0, 1] bcast_S1x224_S32x224_0_1 divisor))
      (broadcastInDim S32x224 ![] bcast_S_S32x224 (sitofp .f32 (constantI S_ 32 0#32) : FVec Ideal S_ .f32)))
    (broadcastInDim S32x224 ![] bcast_S_S32x224 (sitofp .f32 (constantI S_ 32 0#32) : FVec Ideal S_ .f32))

/-- The kernel's weights. -/
theorem kernel_eq (V : Valuation τ sig (Elt Ideal)) :
    StableHlo.after hostOps0_5 (StableHlo.after hostOps0_4 (StableHlo.after hostOps0_3 (StableHlo.after hostOps0_2
      (StableHlo.after hostOps0_1 (StableHlo.after hostOps0 V))))) (Proc.devRef .tc main_v42) = weights := by
  after_reads_simp
  rfl

theorem num_int (b : BitVec 32) : Num (FloatOps.sitofp (F := Ideal) (w := 32) .f32 b) := ⟨_, rfl⟩

theorem num_abs {x : EReal} (h : Num x) : Num (FloatOps.absf (F := Ideal) (φ := .f32) x) := .max h h.neg

theorem num_half : Num (Ideal.ofBits .f32 0x3F000000#32) := ⟨_, by simp only [Ideal.ofBits, Ideal.ieee]; rfl⟩

theorem num_scale : Num (Ideal.ofBits .f32 0x3E124925#32) := ⟨_, by simp only [Ideal.ofBits, Ideal.ieee]; rfl⟩

theorem num_one : Num 1 := ⟨1, EReal.coe_one.symm⟩

theorem position_num (p : Fin 224) : Num (position (ix1 p)) := by
  pointwise [position]
  exact .sub (.mul (.add (num_int _) num_half) num_scale) num_half

/-- What the distances are divided by. -/
theorem width_eq : (id (maximumf (constant S_ .f32 0x3E124925#32) (constant S_ .f32 0x3F800000#32) : FVec Ideal S_ .f32) ix0)
    = max (Ideal.ofBits .f32 0x3E124925#32) 1 := by
  rw [id_eq]
  pointwise

theorem closeness_num (i : Fin 32) (p : Fin 224) : Num (closeness (ix2 i p)) := by
  pointwise [closeness]
  refine .max .zero (.sub num_one (num_abs (.div (num_abs (.sub (position_num p) (num_int _))) ?_ ?_)))
  · rw [width_eq]; exact .max num_scale num_one
  · rw [width_eq]; exact ne_of_gt (lt_of_lt_of_le zero_lt_one (le_max_right _ _))

theorem total_num (p : Fin 224) : Num (total (ix2 0 p)) := by
  pointwise [total]
  exact .sum _ fun i => closeness_num i p

theorem divisor_num (p : Fin 224) : Num (divisor (ix2 0 p)) ∧ divisor (ix2 0 p) ≠ 0 := by
  pointwise [divisor]
  split_ifs with h
  · exact ⟨total_num p, h⟩
  · refine ⟨num_int _, ?_⟩
    show (((1#32 : BitVec 32).toInt : ℝ) : EReal) ≠ 0
    simp

theorem weights_num (i : Fin 32) (p : Fin 224) : Num (weights (ix2 i p)) := by
  pointwise [weights]
  have hs : ∀ (b : BitVec 1) {x y : EReal}, Num x → Num y → Num (Scalar.select b x y) := fun b x y hx hy => by
    unfold Scalar.select; split_ifs <;> assumption
  refine hs _ ?_ (num_int _)
  split_ifs
  · exact .div (closeness_num i p) (divisor_num p).1 (divisor_num p).2
  · exact num_int _

end Cert.Proof.Weights
-- ==== Proof.Embedding.lean ====
/-  The nodes' features in sums: as the kernel adds them up, the resize's second half folded into the embedding's weights,
    and as the reference does, the resize first. On numbers that are no infinities the two are equal. -/
module

public import proofs.«01_k».proof.Proof.Net

@[expose] public section

noncomputable section

namespace Cert.Proof.Embedding

open Cert.Proof.Net

/-- The images, by image, channel, row and column. -/
abbrev Images : Type := Fin 128 → Fin 3 → Fin 32 → Fin 32 → EReal

/-- Feature `k` of node `i`, rows resized by the folded weights. -/
def folded (x : Images) (W : Fin 32 → Fin 224 → EReal) (wp : Fin 768 → Fin 192 → EReal) (bp : Fin 192 → EReal)
    (b : Fin 128) (i : Fin 196) (k : Fin 192) : EReal :=
  layer (fun q : Fin 1536 => dotp (fun w : Fin 32 => x b ⟨q.val / 32 % 3, by omega⟩ ⟨q.val % 32, by omega⟩ w)
      (fun w => W w ⟨i.val % 14 * 16 + q.val / 96, by omega⟩))
    (fun q k => ∑ u : Fin 16, W ⟨q.val % 32, by omega⟩ ⟨16 * (i.val / 14) + u.val, by omega⟩
      * wp ⟨q.val / 32 % 3 * 256 + u.val * 16 + q.val / 96, by omega⟩ k) bp k

/-- Feature `k` of node `i`, of the resized image. -/
def plain (x : Images) (W : Fin 32 → Fin 224 → EReal) (wp : Fin 768 → Fin 192 → EReal) (bp : Fin 192 → EReal)
    (b : Fin 128) (i : Fin 196) (k : Fin 192) : EReal :=
  ∑ q : Fin 768, (∑ w : Fin 32, (∑ r : Fin 32, W r ⟨i.val / 14 * 16 + q.val / 16 % 16, by omega⟩
      * x b ⟨q.val / 256, by omega⟩ r w) * W w ⟨i.val % 14 * 16 + q.val % 16, by omega⟩) * wp q k + bp k

/-- A sum over `m * n` numbers is one over `m` groups of `n`. -/
theorem sum_groups (m n : ℕ) (f : Fin (m * n) → ℝ) :
    ∑ q, f q = ∑ a : Fin m, ∑ b : Fin n, f ⟨a.val * n + b.val, by
      have := a.isLt; have := b.isLt; nlinarith⟩ := by
  refine Eq.trans ?_ (Fintype.sum_prod_type (fun p : Fin m × Fin n => f ⟨p.1.val * n + p.2.val, by
      have := p.1.isLt; have := p.2.isLt; nlinarith⟩))
  refine (Fintype.sum_equiv finProdFinEquiv _ _ fun p => ?_).symm
  refine congrArg f (Fin.ext ?_)
  show p.1.val * n + p.2.val = p.2.val + n * p.1.val
  ring

/-- Resizing the rows after the columns or before them, the products add up to the same. -/
theorem exchange (X : Fin 3 → Fin 32 → Fin 32 → ℝ) (A B : Fin 32 → Fin 16 → ℝ) (P : Fin 3 → Fin 16 → Fin 16 → ℝ) :
    ∑ v, ∑ c, ∑ i, (∑ w, X c i w * B w v) * (∑ u, A i u * P c u v)
      = ∑ c, ∑ u, ∑ v, (∑ w, (∑ r, A r u * X c r w) * B w v) * P c u v := by
  rw [Finset.sum_comm]
  refine Finset.sum_congr rfl fun c _ => ?_
  rw [Finset.sum_comm (s := (Finset.univ : Finset (Fin 16))) (t := (Finset.univ : Finset (Fin 16)))]
  refine Finset.sum_congr rfl fun v _ => ?_
  simp only [Finset.sum_mul_sum]
  simp only [Finset.sum_mul]
  calc ∑ i, ∑ w, ∑ u, X c i w * B w v * (A i u * P c u v)
      = ∑ i, ∑ u, ∑ w, X c i w * B w v * (A i u * P c u v) := Finset.sum_congr rfl fun i _ => Finset.sum_comm
    _ = ∑ u, ∑ i, ∑ w, X c i w * B w v * (A i u * P c u v) := Finset.sum_comm
    _ = ∑ u, ∑ w, ∑ i, X c i w * B w v * (A i u * P c u v) := Finset.sum_congr rfl fun u _ => Finset.sum_comm
    _ = ∑ u, ∑ w, ∑ r, A r u * X c r w * B w v * P c u v := Finset.sum_congr rfl fun u _ =>
        Finset.sum_congr rfl fun w _ => Finset.sum_congr rfl fun r _ => by ring

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem folded_eq (x : Images) (W : Fin 32 → Fin 224 → EReal) (wp : Fin 768 → Fin 192 → EReal) (bp : Fin 192 → EReal)
    (hx : ∀ b c i w, Num (x b c i w)) (hW : ∀ i p, Num (W i p)) (hwp : ∀ q k, Num (wp q k)) :
    folded x W wp bp = plain x W wp bp := by
  choose X hX using hx
  choose R hR using hW
  choose P hP using hwp
  obtain rfl : x = fun b c i w => (X b c i w : EReal) := by funext b c i w; exact hX b c i w
  obtain rfl : W = fun i p => (R i p : EReal) := by funext i p; exact hR i p
  obtain rfl : wp = fun q k => (P q k : EReal) := by funext q k; exact hP q k
  funext b i k
  unfold folded plain layer dotp
  refine congrArg (fun s : EReal => s + bp k) ?_
  simp only [← EReal.coe_mul, ← coe_sum]
  refine congrArg (fun r : ℝ => (r : EReal)) ?_
  have e := exchange (X b) (fun r u => R r ⟨i.val / 14 * 16 + u.val, by omega⟩)
    (fun w v => R w ⟨i.val % 14 * 16 + v.val, by omega⟩) (fun c u v => P ⟨c.val * 256 + u.val * 16 + v.val, by omega⟩ k)
  refine Eq.trans ?_ (e.trans ?_)
  · refine (sum_groups 16 96 _).trans (Finset.sum_congr rfl fun v _ => ?_)
    refine (sum_groups 3 32 _).trans (Finset.sum_congr rfl fun c _ => Finset.sum_congr rfl fun j _ => ?_)
    refine congrArg₂ (fun a b : ℝ => a * b) (Finset.sum_congr rfl fun w _ => ?_) (Finset.sum_congr rfl fun u _ => ?_)
    · congr 3 <;> (try refine Fin.ext ?_) <;> (try dsimp only) <;> omega
    · congr 3 <;> (try refine Fin.ext ?_) <;> (try dsimp only) <;> omega
  · symm
    refine (sum_groups 3 256 _).trans (Finset.sum_congr rfl fun c _ => ?_)
    refine (sum_groups 16 16 _).trans (Finset.sum_congr rfl fun u _ => Finset.sum_congr rfl fun v _ => ?_)
    refine congrArg₂ (fun a b : ℝ => a * b) (Finset.sum_congr rfl fun w _ => ?_) ?_
    · refine congrArg₂ (fun a b : ℝ => a * b) (Finset.sum_congr rfl fun r _ => ?_) ?_
      · congr 3 <;> (try refine Fin.ext ?_) <;> (try dsimp only) <;> omega
      · congr 3 <;> (try refine Fin.ext ?_) <;> (try dsimp only) <;> omega
    · exact congrArg (fun q => P q k) (Fin.ext (by dsimp only; omega))

theorem plain_num (x : Images) (W : Fin 32 → Fin 224 → EReal) (wp : Fin 768 → Fin 192 → EReal) (bp : Fin 192 → EReal)
    (hx : ∀ b c i w, Num (x b c i w)) (hW : ∀ i p, Num (W i p)) (hwp : ∀ q k, Num (wp q k)) (hbp : ∀ k, Num (bp k))
    (b : Fin 128) (i : Fin 196) (k : Fin 192) : Num (plain x W wp bp b i k) :=
  .add (.sum _ fun _ => .mul (.sum _ fun _ => .mul (.sum _ fun _ => .mul (hW _ _) (hx _ _ _ _)) (hW _ _)) (hwp _ _)) (hbp _)

end Cert.Proof.Embedding
-- ==== Proof.ResizeArray.lean ====
/-  The array the first launch leaves: every row of the images, times the weights along the width. -/
module

public import proofs.«01_k».proof.Proof.Gen.KernelIdeal.Frame
public import proofs.«01_k».proof.Proof.Net

@[expose] public section

set_option maxRecDepth 16384

noncomputable section

namespace Cert.Proof.Resize

open Idealize.ShloMosaic Idealize.ShloMosaic.TcCoe Cert.KernelIdeal Cert.KernelIdeal.Gen Cert.Proof.Net
open Idealize.ShloMosaic.Pipeline (Dat)

theorem stored_at (x : Vec Ideal S12288x32 .f32) (w : Vec Ideal S32x224 .f32) (r : Fin 12288) (p : Fin 224) :
    k0_pay1 x w (ix2 r p) = dotp (fun k => x (ix2 r k)) (fun k => w (ix2 k p)) := by
  unfold dotp
  pointwise [k0_pay1]

variable (V : (c : Dev nD) → (b : Ref sig .tc) → Buf (Elt Ideal) ((c : Thread nD τ).loc b))

theorem idx : ∀ t : Fin cfg0.N, win0_0.index t = ![0, 0] ∧ win0_1.index t = ![0, 0] ∧ win0_2.index t = ![0, 0] :=
  (by decide +kernel : ∀ t : Fin grid0.N, _)

theorem block_0 (c : Dev nD) (t : Fin cfg0.N) (i : Fin 12288) (k : Fin 32) :
    iblk0 V c 0 t (ix2 i k) = V c main_v56 (ix2 i k) := by
  blk_ext [iblk0, idx t]

theorem block_1 (c : Dev nD) (t : Fin cfg0.N) (i : Fin 32) (k : Fin 224) :
    iblk0 V c 1 t (ix2 i k) = V c main_v55 (ix2 i k) := by
  blk_ext [iblk0, idx t]

/-- The array's number at one row and column. -/
def out (c : Dev nD) (r : Fin 12288) (p : Fin 224) : EReal :=
  dotp (fun k : Fin 32 => V c main_v56 (ix2 r k)) (fun k => V c main_v55 (ix2 k p))

theorem array_at (c : Dev nD) : (dat0 V c).arrAt 2 cfg0.N = fun y : S12288x224.Idx => out V c (y 0) (y 1) := by
  refine (dat0 V c).arrAt_eq_of_covers 2 _ (by decide +kernel) fun t _ y => ?_
  blk_simp
  rw [after0_2]
  frame_out
  obtain ⟨b, o, rfl⟩ : ∃ (b : Fin 12288) (o : Fin 224), y = ix2 b o := exists_ix2 y
  refine (stored_at _ _ b o).trans ?_
  simp only [block_0, block_1]
  refine congrArg₂ (out V c) (Fin.ext ?_) (Fin.ext ?_) <;> blk_simp <;> simp only [idx t] <;> simp

end Cert.Proof.Resize
-- ==== Proof.EmbedArray.lean ====
/-  The array the second launch leaves: at image `b`, patch row `py`, patch column `px` and feature `k`, the patch's
    columns times the weights of its patch row, plus the bias. -/
module

public import proofs.«01_k».proof.Proof.Gen.KernelIdeal.Frame
public import proofs.«01_k».proof.Proof.Net

@[expose] public section

set_option maxRecDepth 16384

noncomputable section

namespace Cert.Proof.Embed

open Idealize.ShloMosaic Idealize.ShloMosaic.TcCoe Cert.KernelIdeal Cert.KernelIdeal.Gen Cert.Proof.Net
open Idealize.ShloMosaic.Pipeline (Dat)

/-- Fourteen neighbouring columns, one of each patch. -/
def columns (x0 : Vec Ideal S16x224x96 .f32) (v : Fin 16) : FVec Ideal S16x14x96 .f32 :=
  shapeCast S16x14x96 (extractStridedSlice S16x1x14x96 ![0, v.val, 0, 0]
    (shapeCast S16x16x14x96 (shapeCast S16x224x96 x0 shapeCasts_S16x224x96_S16x224x96 : FVec Ideal S16x224x96 .f32)
      shapeCasts_S16x224x96_S16x16x14x96 : FVec Ideal S16x16x14x96 .f32)
    ((by decide : ∀ v : Fin 16, S16x16x14x96.Slices ![0, v.val, 0, 0] S16x1x14x96) v)
      : FVec Ideal S16x1x14x96 .f32)
    shapeCasts_S16x1x14x96_S16x14x96

theorem columns_at (x0 : Vec Ideal S16x224x96 .f32) (v : Fin 16) (s : Fin 16) (px : Fin 14) (i : Fin 96) :
    columns x0 v (ix3 s px i) = x0 (ix3 s ⟨v.val * 14 + px.val, by omega⟩ i) := by
  unfold columns
  pointwise

theorem joins : Shape.Concatenates ((List.ofFn fun _ : Fin 16 => S16x14x96)) S16x14x1536 2 := by decide

theorem patches_eq (x0 : Vec Ideal S16x224x96 .f32) :
    k1_pay1 x0 = shapeCast S224x1536 (concatenate S16x14x1536 2
      (List.ofFn fun v : Fin 16 => (⟨S16x14x96, columns x0 v⟩ : (s : Shape) × (s.Idx → EReal))) joins
        : FVec Ideal S16x14x1536 .f32) shapeCasts_S16x14x1536_S224x1536 := rfl

theorem patches_at (x0 : Vec Ideal S16x224x96 .f32) (s : Fin 16) (px : Fin 14) (q : Fin 1536) :
    k1_pay1 x0 (ix2 ⟨s.val * 14 + px.val, by omega⟩ q)
      = x0 (ix3 s ⟨q.val / 96 * 14 + px.val, by omega⟩ ⟨q.val % 96, by omega⟩) := by
  rw [patches_eq]
  have h : ∀ y : FVec Ideal S16x14x1536 .f32, (shapeCast S224x1536 y shapeCasts_S16x14x1536_S224x1536)
      (ix2 ⟨s.val * 14 + px.val, by omega⟩ q) = y (ix3 s px q) := fun y => by pointwise
  rw [h]
  have hq := q.isLt
  refine (concatenate_ofFn_apply _ (columns x0) joins rfl 96 rfl _ ⟨q.val / 96, by omega⟩ rfl
    (ix3 s px ⟨q.val % 96, by omega⟩) rfl fun b hb => ?_).trans (columns_at x0 _ s px _)
  match b, hb with
  | ⟨0, _⟩, _ => rfl
  | ⟨1, _⟩, _ => rfl
  | ⟨2, _⟩, hb => exact absurd rfl hb

/-- One patch row's features. -/
def strip (yc : FVec Ideal S224x1536 .f32) (w : Vec Ideal S1x1536x192 .f32) (b : Vec Ideal S1x192 .f32) :
    FVec Ideal S16x1x14x192 .f32 :=
  shapeCast S16x1x14x192 (addf (matmul dot_S224x1536_S1536x192_S224x192_1_0_0_1_n_n none yc
      (shapeCast S1536x192 w shapeCasts_S1x1536x192_S1536x192 : FVec Ideal S1536x192 .f32)
      (constant S224x192 .f32 0x00000000#32))
    (broadcastTo S224x192 (shapeCast S1x192 b shapeCasts_S1x192_S1x192 : FVec Ideal S1x192 .f32)
      broadcasts_S1x192_S224x192) : FVec Ideal S224x192 .f32)
    shapeCasts_S224x192_S16x1x14x192

theorem strip_at (yc : FVec Ideal S224x1536 .f32) (w : Vec Ideal S1x1536x192 .f32) (b : Vec Ideal S1x192 .f32)
    (s : Fin 16) (z : Fin 1) (px : Fin 14) (k : Fin 192) :
    strip yc w b (ix4 s z px k) = layer (fun q : Fin 1536 => yc (ix2 ⟨s.val * 14 + px.val, by omega⟩ q))
      (fun q k => w (ix3 0 q k)) (fun k => b (ix2 0 k)) k := by
  obtain rfl : z = 0 := Subsingleton.elim _ _
  unfold strip layer
  pointwise

/-- The rectangle of one patch row's weights. -/
def rect (py : Fin 14) : Rect S14x1536x192 :=
  Rect.unit (s := S14x1536x192) ![py.val, 0, 0] S1x1536x192.size
    ((by decide : ∀ py : Fin 14, ∀ a, (![py.val, 0, 0] : Fin 3 → ℕ) a + S1x1536x192.size a ≤ S14x1536x192.size a) py)

theorem piles : Shape.Concatenates ((List.ofFn fun _ : Fin 14 => S16x1x14x192)) S16x14x14x192 1 := by decide

/-- The block one step stores: the patch rows' features, stacked. -/
def stored (x0 : Vec Ideal S16x224x96 .f32) (x1 : Vec Ideal S14x1536x192 .f32) (x2 : Vec Ideal S1x192 .f32) :
    FVec Ideal S16x14x14x192 .f32 :=
  concatenate S16x14x14x192 1
    (List.ofFn fun py : Fin 14 => (⟨S16x1x14x192, strip (k1_pay1 (View.ld x0 r1_0)) (View.ld x1 (rect py))
      (View.ld x2 r1_2)⟩ : (s : Shape) × (s.Idx → EReal))) piles

theorem out1_3_eq (x0 : Vec Ideal S16x224x96 .f32) (x1 : Vec Ideal S14x1536x192 .f32) (x2 : Vec Ideal S1x192 .f32) :
    out1_3 x0 x1 x2 = View.canon [⟨r1_16, stored x0 x1 x2⟩] := rfl

theorem stored_at (x0 : Vec Ideal S16x224x96 .f32) (x1 : Vec Ideal S14x1536x192 .f32) (x2 : Vec Ideal S1x192 .f32)
    (s : Fin 16) (py px : Fin 14) (k : Fin 192) :
    stored x0 x1 x2 (ix4 s py px k)
      = layer (fun q : Fin 1536 => x0 (ix3 s ⟨q.val / 96 * 14 + px.val, by omega⟩ ⟨q.val % 96, by omega⟩))
          (fun q k => x1 (ix3 py q k)) (fun k => x2 (ix2 0 k)) k := by
  have hw : ∀ q k, View.ld x1 (rect py) (ix3 0 q k) = x1 (ix3 py q k) := fun q k => by
    refine congrArg x1 (funext fun a => Fin.ext ?_)
    match a with
    | ⟨0, _⟩ => simp [rect]
    | ⟨1, _⟩ => simp [rect]
    | ⟨2, _⟩ => simp [rect]
  have h0 : View.ld x0 r1_0 = x0 := View.ld_unit_lit _ _ (by decide)
  have h2 : View.ld x2 r1_2 = x2 := View.ld_unit_lit _ _ (by decide)
  unfold stored
  refine (concatenate_ofFn_unit_apply 1 (fun py : Fin 14 => strip (k1_pay1 (View.ld x0 r1_0)) (View.ld x1 (rect py))
      (View.ld x2 r1_2)) piles rfl rfl _ py rfl (ix4 s 0 px k) fun b hb => ?_).trans ?_
  · match b, hb with
    | ⟨0, _⟩, _ => rfl
    | ⟨1, _⟩, hb => exact absurd rfl hb
    | ⟨2, _⟩, _ => rfl
    | ⟨3, _⟩, _ => rfl
  · refine (strip_at _ _ _ s 0 px k).trans ?_
    simp only [h0, hw, patches_at]
    exact congrArg (fun g : Vec Ideal S1x192 .f32 => layer _ _ (fun k => g (ix2 0 k)) k) h2

variable (V : (c : Dev nD) → (b : Ref sig .tc) → Buf (Elt Ideal) ((c : Thread nD τ).loc b))

theorem idx : ∀ t : Fin cfg1.N, win1_0.index t = ![t.val, 0, 0] ∧ win1_1.index t = ![0, 0, 0]
    ∧ win1_2.index t = ![0, 0] ∧ win1_3.index t = ![t.val, 0, 0, 0] :=
  (by decide +kernel : ∀ t : Fin grid1.N, _)

theorem block_0 (c : Dev nD) (t : Fin cfg1.N) (s : Fin 16) (i : Fin 224) (k : Fin 96) (b : Fin 128)
    (hb : b.val = 16 * t.val + s.val) : iblk1 V c 0 t (ix3 s i k) = V c main_v60 (ix3 b i k) := by
  blk_ext [iblk1, idx t]

theorem block_1 (c : Dev nD) (t : Fin cfg1.N) (i : Fin 14) (q : Fin 1536) (k : Fin 192) :
    iblk1 V c 1 t (ix3 i q k) = V c main_v202 (ix3 i q k) := by
  blk_ext [iblk1, idx t]

theorem block_2 (c : Dev nD) (t : Fin cfg1.N) (i : Fin 1) (k : Fin 192) :
    iblk1 V c 2 t (ix2 i k) = V c main_v203 (ix2 i k) := by
  blk_ext [iblk1, idx t]

/-- The array's number at one image, patch and feature. -/
def out (c : Dev nD) (b : Fin 128) (py px : Fin 14) (k : Fin 192) : EReal :=
  layer (fun q : Fin 1536 => V c main_v60 (ix3 b ⟨q.val / 96 * 14 + px.val, by omega⟩ ⟨q.val % 96, by omega⟩))
    (fun q k => V c main_v202 (ix3 py q k)) (fun k => V c main_v203 (ix2 0 k)) k

theorem array_at (c : Dev nD) : (dat1 V c).arrAt 3 cfg1.N
    = fun y : S128x14x14x192.Idx => out V c (y 0) (y 1) (y 2) (y 3) := by
  refine (dat1 V c).arrAt_eq_of_covers 3 _ (by decide +kernel) fun t _ y => ?_
  blk_simp
  rw [after1_3, out1_3_eq]
  frame_out
  obtain ⟨s, py, px, k, rfl⟩ : ∃ (s : Fin 16) (py px : Fin 14) (k : Fin 192), y = ix4 s py px k := exists_ix4 y
  have ht : t.val < 8 := t.isLt
  refine (stored_at _ _ _ s py px k).trans ?_
  simp only [block_0 V c t s _ _ ⟨16 * t.val + s.val, by omega⟩ rfl, block_1, block_2]
  refine (show _ = out V c ⟨16 * t.val + s.val, by omega⟩ py px k from rfl).trans ?_
  congr 1 <;> refine Fin.ext ?_ <;> blk_simp <;> simp only [idx t] <;> simp <;> omega

end Cert.Proof.Embed
-- ==== Proof.GraphBlock.lean ====
/-  What one step of the graph launch writes, in terms of one image: nine rounds of "take the nearest node that is
    left", the graph convolution, the feed-forward pair and the mean over the nodes, said once as a function of the
    image's features, and the stored block as four of them. -/
module

public import proofs.«01_k».proof.Proof.Gen.KernelIdeal.Frame
public import Idealize.ShloMosaic.Lib.Pipeline.ValueKit

@[expose] public section

set_option maxRecDepth 16384

noncomputable section

namespace Cert.Proof.Graph

open Idealize.ShloMosaic Cert.KernelIdeal Cert.KernelIdeal.Gen

/-- The square of the length of node `j` less twice its product with node `k`: the squared distance of the two, but
    for a term that depends on `k` alone. -/
def score (hm : FVec Ideal S196x192 .f32) : FVec Ideal S196x196 .f32 :=
  subf (broadcastTo S196x196 (shapeCast S196x1
      (multiReduction .add [1] S196 (mulf hm hm) 0x00000000#32 reduces_S196x192_S196 (.inl rfl) rfl)
      shapeCasts_S196_S196x1) broadcasts_S196x1_S196x196)
    (mulf (broadcast S196x196 (Scalar.ofBits .f32 0x40000000#32))
      (matmul dot_S196x192_S192x196_S196x196_1_0_0_1_n_n none hm
        (transpose S192x196 [1, 0] hm transposes_S196x192_p1_0_S192x196) (constant S196x196 .f32 0x00000000#32)))

/-- Marks in every column the row where the scores `d` are least. -/
def nearest (d : FVec Ideal S196x196 .f32) : IVec S196x196 1 :=
  cmpi .eq (iota .tc S196x196 32 [0] iota_S196x196_d0_w32)
    (broadcastTo S196x196 (shapeCast S1x196 (reduceIndex .argMin 0 S196 d reduces_S196x196_S196)
      shapeCasts_S196_S1x196) broadcasts_S1x196_S196x196)

/-- The marked rows' features. -/
def picked (hb : FVec Ideal S196x192 .bf16) (d : FVec Ideal S196x196 .f32) : FVec Ideal S196x192 .f32 :=
  matmul dot_S196x196_S196x192_S196x192_0_0_1_1_n_n none
    (truncf .bf16 (sitofp .f32 (extui 32 (nearest d) natLt_1_32) : FVec Ideal S196x196 .f32) bitsLt_bf16_f32) hb
    (constant S196x192 .f32 0x00000000#32)

/-- The scores with the marked places out of the running. -/
def struck (d : FVec Ideal S196x196 .f32) : FVec Ideal S196x196 .f32 :=
  select (nearest d) (broadcast S196x196 (Scalar.ofBits .f32 0x7F800000#32)) d

/-- One round: the greatest features so far, and the scores left. -/
def round (hb : FVec Ideal S196x192 .bf16) (s : FVec Ideal S196x192 .f32 × FVec Ideal S196x196 .f32) :
    FVec Ideal S196x192 .f32 × FVec Ideal S196x196 .f32 :=
  (maximumf s.1 (picked hb s.2), struck s.2)

/-- The greatest features among the nine nearest nodes. -/
def greatest (hm : FVec Ideal S196x192 .f32) : FVec Ideal S196x192 .f32 :=
  ((round (truncf .bf16 hm bitsLt_bf16_f32))^[9] (broadcast S196x192 (Scalar.ofBits .f32 0xFF800000#32), score hm)).1

/-- The graph convolution with its residual. -/
def convolved (hm mx : FVec Ideal S196x192 .f32) (wg1 wg2 : FVec Ideal S192x192 .bf16) (bg : Vec Ideal S1x192 .f32) :
    FVec Ideal S196x192 .f32 :=
  addf hm (addf (addf
    (matmul dot_S196x192_S192x192_S196x192_1_0_0_1_n_n none (φ₂ := .bf16) (truncf .bf16 hm bitsLt_bf16_f32)
      (shapeCast S192x192 wg1 shapeCasts_S192x192_S192x192) (constant S196x192 .f32 0x00000000#32))
    (matmul dot_S196x192_S192x192_S196x192_1_0_0_1_n_n none (φ₂ := .bf16) (truncf .bf16 (subf mx hm) bitsLt_bf16_f32)
      (shapeCast S192x192 wg2 shapeCasts_S192x192_S192x192) (constant S196x192 .f32 0x00000000#32)))
    (broadcastTo S196x192 (shapeCast S1x192 bg shapeCasts_S1x192_S1x192) broadcasts_S1x192_S196x192))

/-- The hidden layer before its activation. -/
def hidden (h2 : FVec Ideal S196x192 .f32) (w1 : FVec Ideal S192x768 .bf16) (b1 : Vec Ideal S1x768 .f32) :
    FVec Ideal S196x768 .f32 :=
  addf (matmul dot_S196x192_S192x768_S196x768_1_0_0_1_n_n none (φ₂ := .bf16) (truncf .bf16 h2 bitsLt_bf16_f32)
      (shapeCast S192x768 w1 shapeCasts_S192x768_S192x768) (constant S196x768 .f32 0x00000000#32))
    (broadcastTo S196x768 (shapeCast S1x768 b1 shapeCasts_S1x768_S1x768) broadcasts_S1x768_S196x768)

/-- The activation. -/
def active (u : FVec Ideal S196x768 .f32) : FVec Ideal S196x768 .f32 :=
  mulf u (mulf (broadcast S196x768 (Scalar.ofBits .f32 0x3F000000#32))
    (addf (broadcast S196x768 (Scalar.ofBits .f32 0x3F800000#32))
      (tanh (mulf (broadcast S196x768 (Scalar.ofBits .f32 0x3F4C422A#32))
        (addf u (mulf (broadcast S196x768 (Scalar.ofBits .f32 0x3D372713#32)) (mulf u (mulf u u))))))))

/-- The mean over the nodes after the feed-forward pair with its residual. -/
def pooled (h2 : FVec Ideal S196x192 .f32) (f : FVec Ideal S196x768 .f32) (w2 : FVec Ideal S768x192 .bf16)
    (b2 : Vec Ideal S1x192 .f32) : FVec Ideal S1x192 .f32 :=
  divf (shapeCast S1x192 (multiReduction .add [0] S192
      (addf h2 (addf (matmul dot_S196x768_S768x192_S196x192_1_0_0_1_n_n none (φ₂ := .bf16) (truncf .bf16 f bitsLt_bf16_f32)
          (shapeCast S768x192 w2 shapeCasts_S768x192_S768x192) (constant S196x192 .f32 0x00000000#32))
        (broadcastTo S196x192 (shapeCast S1x192 b2 shapeCasts_S1x192_S1x192) broadcasts_S1x192_S196x192)))
      0x00000000#32 reduces_S196x192_S192 (.inl rfl) rfl) shapeCasts_S192_S1x192)
    (broadcast S1x192 (Scalar.ofBits .f32 0x43440000#32))

/-- One image's row of the result. -/
def image (hm : FVec Ideal S196x192 .f32) (wg1 wg2 : FVec Ideal S192x192 .bf16) (bg : Vec Ideal S1x192 .f32)
    (w1 : FVec Ideal S192x768 .bf16) (b1 : Vec Ideal S1x768 .f32) (w2 : FVec Ideal S768x192 .bf16)
    (b2 : Vec Ideal S1x192 .f32) : FVec Ideal S1x192 .f32 :=
  pooled (convolved hm (greatest hm) wg1 wg2 bg) (active (hidden (convolved hm (greatest hm) wg1 wg2 bg) w1 b1)) w2 b2

/-- What the step stores. -/
def stored (x0 : Vec Ideal S4x196x192 .f32) (wg1 wg2 : Vec Ideal S192x192 .bf16) (bg : Vec Ideal S1x192 .f32)
    (w1 : Vec Ideal S192x768 .bf16) (b1 : Vec Ideal S1x768 .f32) (w2 : Vec Ideal S768x192 .bf16)
    (b2 : Vec Ideal S1x192 .f32) : FVec Ideal S1x4x192 .f32 :=
  shapeCast S1x4x192 (concatenate S4x192 0
    [⟨S1x192, image (extractStridedSlice S196x192 ![0, 0] (k2_pay2 x0) slices_S784x192_o0_0_S196x192) wg1 wg2 bg w1 b1 w2 b2⟩,
     ⟨S1x192, image (extractStridedSlice S196x192 ![196, 0] (k2_pay2 x0) slices_S784x192_o196_0_S196x192) wg1 wg2 bg w1 b1 w2 b2⟩,
     ⟨S1x192, image (extractStridedSlice S196x192 ![392, 0] (k2_pay2 x0) slices_S784x192_o392_0_S196x192) wg1 wg2 bg w1 b1 w2 b2⟩,
     ⟨S1x192, image (extractStridedSlice S196x192 ![588, 0] (k2_pay2 x0) slices_S784x192_o588_0_S196x192) wg1 wg2 bg w1 b1 w2 b2⟩]
    concatenates_S1x192_S1x192_S1x192_S1x192_S4x192_d0) shapeCasts_S4x192_S1x4x192

/-- The launch's stored block is the four images' rows. -/
theorem out2_8_eq (x0 : Vec Ideal S4x196x192 .f32) (x1 x2 : Vec Ideal S192x192 .bf16) (x3 : Vec Ideal S1x192 .f32)
    (x4 : Vec Ideal S192x768 .bf16) (x5 : Vec Ideal S1x768 .f32) (x6 : Vec Ideal S768x192 .bf16)
    (x7 : Vec Ideal S1x192 .f32) :
    out2_8 x0 x1 x2 x3 x4 x5 x6 x7 = View.canon [⟨r2_6, stored (View.ld x0 r2_0) (View.ld x1 r2_1) (View.ld x2 r2_1)
      (View.ld x3 r2_2) (View.ld x4 r2_3) (View.ld x5 r2_4) (View.ld x6 r2_5) (View.ld x7 r2_2)⟩] := by
  rfl

end Cert.Proof.Graph
-- ==== Proof.GraphImage.lean ====
/-  One image's row of the graph launch's result is what the network says: after `t` rounds the scores are those of the
    nodes left in the running, and the round takes the row of the node at place `t`. -/
module

public import proofs.«01_k».proof.Proof.GraphBlock
public import proofs.«01_k».proof.Proof.Net

@[expose] public section

set_option maxRecDepth 16384

noncomputable section

namespace Cert.Proof.Graph

open Idealize.ShloMosaic Cert.KernelIdeal Cert.KernelIdeal.Gen Cert.Proof.Net Cert.Proof.Selection

theorem score_at (hm : FVec Ideal S196x192 .f32) (j k : Fin 196) :
    score hm (ix2 j k) = key (fun i c => hm (ix2 i c)) k j := by
  unfold key
  pointwise [score]

theorem nearest_at (d : FVec Ideal S196x196 .f32) (p : Fin 196) (k : Fin 196)
    (h1 : ∀ j, d (ix2 p k) ≤ d (ix2 j k)) (h2 : ∀ j, j < p → d (ix2 p k) < d (ix2 j k)) (j : Fin 196) :
    nearest d (ix2 j k) = if j = p then 1#1 else 0#1 := by
  have h : reduceIndex ArgKind.argMin 0 S196 d reduces_S196x196_S196 (ix1 k) = BitVec.ofNat 32 p.val :=
    reduceIndex_column reduces_S196x196_S196 d k p h1 h2
  pointwise [nearest]
  rw [h]
  have hiff : BitVec.ofNat 32 j.val = BitVec.ofNat 32 p.val ↔ j = p := by
    rw [← BitVec.toNat_inj, BitVec.toNat_ofNat, BitVec.toNat_ofNat, Fin.ext_iff]
    omega
  by_cases hj : j = p
  · simp [IntOp.cmpi, hj]
  · have h0 : (BitVec.ofNat 32 j.val == BitVec.ofNat 32 p.val) = false := beq_eq_false_iff_ne.mpr fun h => hj (hiff.mp h)
    rw [if_neg hj]
    show BitVec.ofBool (BitVec.ofNat 32 j.val == BitVec.ofNat 32 p.val) = 0#1
    rw [h0]
    rfl

theorem picked_at (hb : FVec Ideal S196x192 .bf16) (d : FVec Ideal S196x196 .f32) (p k : Fin 196) (c : Fin 192)
    (h : ∀ j, nearest d (ix2 j k) = if j = p then 1#1 else 0#1) : picked hb d (ix2 k c) = hb (ix2 p c) := by
  pointwise [picked]
  have h1 : ∀ j, (FloatOps.sitofp FTy.f32 (BitVec.setWidth 32 (nearest d (ix2 j k))) : Ideal .f32)
      = if j = p then (1 : EReal) else 0 := fun j => by
    rw [h j]
    by_cases hj : j = p
    · rw [if_pos hj, if_pos hj]
      show (((BitVec.setWidth 32 1#1).toInt : ℝ) : EReal) = 1
      simp
    · rw [if_neg hj, if_neg hj]
      show (((BitVec.setWidth 32 0#1).toInt : ℝ) : EReal) = 0
      simp
  refine (Finset.sum_eq_single p (fun j _ hj => ?_) fun hp => absurd (Finset.mem_univ p) hp).trans ?_
  · rw [h1 j, if_neg hj]; exact zero_mul _
  · rw [h1 p, if_pos rfl]; exact one_mul _

theorem struck_at (d : FVec Ideal S196x196 .f32) (p k : Fin 196)
    (h : ∀ j, nearest d (ix2 j k) = if j = p then 1#1 else 0#1) (j : Fin 196) :
    struck d (ix2 j k) = if j = p then ⊤ else d (ix2 j k) := by
  pointwise [struck]
  rw [h j]
  by_cases hj : j = p
  · rw [if_pos hj, if_pos hj]
    show Ideal.ofBits FTy.f32 2139095040#32 = ⊤
    simp [Ideal.ofBits, Ideal.ieee]
  · rw [if_neg hj, if_neg hj]
    rfl

/-- After `t` rounds. -/
theorem rounds_at (hm : FVec Ideal S196x192 .f32) (hf : ∀ i, Num (hm i)) (t : ℕ) (ht : t ≤ 9) :
    let s := (round (truncf .bf16 hm bitsLt_bf16_f32))^[t] (broadcast S196x192 (Scalar.ofBits .f32 0xFF800000#32), score hm)
    (∀ i c, s.1 (ix2 i c) = top (fun i c => hm (ix2 i c)) t i c)
      ∧ ∀ j k, s.2 (ix2 j k) = left (key (fun i c => hm (ix2 i c)) k) t j := by
  have hk : ∀ i j, key (fun i c => hm (ix2 i c)) i j ≠ ⊤ := fun i j => (key_num _ (fun i c => hf _) i j).ne_top
  induction t with
  | zero =>
    refine ⟨fun i c => ?_, fun j k => ?_⟩
    · rw [top_zero]
      show Ideal.ofBits FTy.f32 0xFF800000#32 = ⊥
      simp [Ideal.ofBits, Ideal.ieee]
    · rw [left_zero]
      exact score_at hm j k
  | succ t ih =>
    obtain ⟨i1, i2⟩ := ih (by omega)
    rw [Function.iterate_succ_apply']
    generalize (round (truncf FTy.bf16 hm bitsLt_bf16_f32))^[t]
      (broadcast S196x192 (Scalar.ofBits .f32 0xFF800000#32), score hm) = s at i1 i2 ⊢
    have hn : ∀ j k, nearest s.2 (ix2 j k) = if j = near (fun i c => hm (ix2 i c)) k ⟨t, by omega⟩ then 1#1 else 0#1 :=
      fun j k => nearest_at _ (near (fun i c => hm (ix2 i c)) k ⟨t, by omega⟩) k
        (fun j => by rw [i2, i2]; exact (left_least _ (hk k) ⟨t, by omega⟩).1 j)
        (fun j hj => by rw [i2, i2]; exact (left_least _ (hk k) ⟨t, by omega⟩).2 j hj) j
    refine ⟨fun i c => ?_, fun j k => ?_⟩
    · show max _ (picked _ _ (ix2 i c)) = _
      rw [i1, picked_at _ _ _ i c fun j => hn j i]
      exact (top_succ (fun i c => hm (ix2 i c)) ⟨t, by omega⟩ i c).symm
    · show struck _ (ix2 j k) = _
      rw [struck_at _ _ k (fun j => hn j k) j, i2]
      exact (left_succ (key (fun i c => hm (ix2 i c)) k) ⟨t, by omega⟩ j).symm

theorem greatest_at (hm : FVec Ideal S196x192 .f32) (hf : ∀ i, Num (hm i)) (i : Fin 196) (c : Fin 192) :
    greatest hm (ix2 i c) = top (fun i c => hm (ix2 i c)) 9 i c :=
  (rounds_at hm hf 9 le_rfl).1 i c

theorem convolved_at (hm : FVec Ideal S196x192 .f32) (hf : ∀ i, Num (hm i)) (wg1 wg2 : FVec Ideal S192x192 .bf16)
    (bg : Vec Ideal S1x192 .f32) (i : Fin 196) (k : Fin 192) :
    convolved hm (greatest hm) wg1 wg2 bg (ix2 i k)
      = conv (fun i c => hm (ix2 i c)) (fun c k => wg1 (ix2 c k)) (fun c k => wg2 (ix2 c k)) (fun k => bg (ix2 0 k)) i k := by
  unfold conv
  pointwise [convolved]
  simp only [greatest_at hm hf]

theorem active_at (u : FVec Ideal S196x768 .f32) (i : Fin 196) (k : Fin 768) :
    active u (ix2 i k) = gelu (u (ix2 i k)) := by
  unfold gelu
  pointwise [active]

theorem hidden_at (h2 : FVec Ideal S196x192 .f32) (w1 : FVec Ideal S192x768 .bf16) (b1 : Vec Ideal S1x768 .f32)
    (i : Fin 196) (k : Fin 768) :
    hidden h2 w1 b1 (ix2 i k)
      = layer (fun c => h2 (ix2 i c)) (fun c k => w1 (ix2 c k)) (fun k => b1 (ix2 0 k)) k := by
  unfold layer
  pointwise [hidden]

theorem pooled_at (h2 : FVec Ideal S196x192 .f32) (f : FVec Ideal S196x768 .f32) (w2 : FVec Ideal S768x192 .bf16)
    (b2 : Vec Ideal S1x192 .f32) (c : Fin 192) :
    pooled h2 f w2 b2 (ix2 0 c) = Ideal.div (∑ i, (h2 (ix2 i c)
      + layer (fun k => f (ix2 i k)) (fun k c => w2 (ix2 k c)) (fun c => b2 (ix2 0 c)) c))
        (Ideal.ofBits .f32 0x43440000#32) := by
  unfold layer
  pointwise [pooled]

/-- One image's row. -/
theorem image_at (hm : FVec Ideal S196x192 .f32) (hf : ∀ i, Num (hm i)) (wg1 wg2 : FVec Ideal S192x192 .bf16)
    (bg : Vec Ideal S1x192 .f32) (w1 : FVec Ideal S192x768 .bf16) (b1 : Vec Ideal S1x768 .f32)
    (w2 : FVec Ideal S768x192 .bf16) (b2 : Vec Ideal S1x192 .f32) (c : Fin 192) :
    image hm wg1 wg2 bg w1 b1 w2 b2 (ix2 0 c)
      = Net.pool (conv (fun i c => hm (ix2 i c)) (fun c k => wg1 (ix2 c k)) (fun c k => wg2 (ix2 c k)) (fun k => bg (ix2 0 k)))
          (fun c k => w1 (ix2 c k)) (fun k => b1 (ix2 0 k)) (fun k c => w2 (ix2 k c)) (fun c => b2 (ix2 0 c)) c := by
  unfold image Net.pool
  rw [pooled_at]
  simp only [active_at, hidden_at, convolved_at hm hf]

end Cert.Proof.Graph
-- ==== Proof.GraphArray.lean ====
/-  The array the graph launch leaves: at step `s`, place `m` and feature `k` the network's row for image `4 s + m`. -/
module

public import proofs.«01_k».proof.Proof.GraphImage

@[expose] public section

set_option maxRecDepth 16384

noncomputable section

namespace Cert.Proof.Graph

open Idealize.ShloMosaic Idealize.ShloMosaic.TcCoe Cert.KernelIdeal Cert.KernelIdeal.Gen Cert.Proof.Net
open Idealize.ShloMosaic.Pipeline (Dat)

/-- One image's features among the step's four. -/
theorem slice_at (x0 : Vec Ideal S4x196x192 .f32) (o : ℕ) (n : Fin 4) (ho : o = 196 * n.val)
    (h : S784x192.Slices ![o, 0] S196x192) (i : Fin 196) (c : Fin 192) :
    extractStridedSlice S196x192 ![o, 0] (k2_pay2 x0) h (ix2 i c) = x0 (ix3 n i c) := by
  subst ho
  pointwise [k2_pay2]

theorem stored_at (x0 : Vec Ideal S4x196x192 .f32) (hf : ∀ i, Num (x0 i)) (wg1 wg2 : Vec Ideal S192x192 .bf16)
    (bg : Vec Ideal S1x192 .f32)
    (w1 : Vec Ideal S192x768 .bf16) (b1 : Vec Ideal S1x768 .f32) (w2 : Vec Ideal S768x192 .bf16)
    (b2 : Vec Ideal S1x192 .f32) (n : Fin 4) (k : Fin 192) :
    stored x0 wg1 wg2 bg w1 b1 w2 b2 (ix3 0 n k)
      = Net.pool (conv (fun i c => x0 (ix3 n i c)) (fun c k => wg1 (ix2 c k)) (fun c k => wg2 (ix2 c k))
          (fun k => bg (ix2 0 k))) (fun c k => w1 (ix2 c k)) (fun k => b1 (ix2 0 k)) (fun k c => w2 (ix2 k c))
          (fun c => b2 (ix2 0 c)) k := by
  have him : ∀ (o : ℕ) (n : Fin 4) (_ : o = 196 * n.val) (h : S784x192.Slices ![o, 0] S196x192) (z : Fin 1),
      image (extractStridedSlice S196x192 ![o, 0] (k2_pay2 x0) h) wg1 wg2 bg w1 b1 w2 b2 (ix2 z k)
      = Net.pool (conv (fun i c => x0 (ix3 n i c)) (fun c k => wg1 (ix2 c k)) (fun c k => wg2 (ix2 c k))
          (fun k => bg (ix2 0 k))) (fun c k => w1 (ix2 c k)) (fun k => b1 (ix2 0 k)) (fun k c => w2 (ix2 k c))
          (fun c => b2 (ix2 0 c)) k := fun o n ho h z => by
    obtain rfl : z = 0 := Subsingleton.elim _ _
    rw [image_at _ (fun i => by
      obtain ⟨a, b, rfl⟩ := exists_ix2 i
      rw [slice_at x0 o n ho h]
      exact hf _)]
    simp only [slice_at x0 o n ho h]
  unfold stored
  pointwise
  have hn : n.val < 4 := n.isLt
  by_cases h1 : n.val < 1
  · rw [dif_pos h1, him 0 n (by omega)]
  by_cases h2 : n.val - 1 < 1
  · rw [dif_neg h1, dif_pos h2, him 196 n (by omega)]
  by_cases h3 : n.val - 1 - 1 < 1
  · rw [dif_neg h1, dif_neg h2, dif_pos h3, him 392 n (by omega)]
  · rw [dif_neg h1, dif_neg h2, dif_neg h3, him 588 n (by omega)]

variable (V : (c : Dev nD) → (b : Ref sig .tc) → Buf (Elt Ideal) ((c : Thread nD τ).loc b))

/-- Which block of each array the step works on. -/
theorem idx : ∀ t : Fin cfg2.N, win2_0.index t = ![t.val, 0, 0] ∧ win2_1.index t = ![0, 0] ∧ win2_2.index t = ![0, 0]
    ∧ win2_3.index t = ![0, 0] ∧ win2_4.index t = ![0, 0] ∧ win2_5.index t = ![0, 0] ∧ win2_6.index t = ![0, 0]
    ∧ win2_7.index t = ![0, 0] ∧ win2_8.index t = ![t.val, 0, 0] :=
  (by decide +kernel : ∀ t : Fin grid2.N, _)

theorem block_0 (c : Dev nD) (t : Fin cfg2.N) (n : Fin 4) (i : Fin 196) (k : Fin 192) (b : Fin 128)
    (hb : b.val = 4 * t.val + n.val) : iblk2 V c 0 t (ix3 n i k) = V c main_v205 (ix3 b i k) := by
  blk_ext [iblk2, idx t]

theorem block_1 (c : Dev nD) (t : Fin cfg2.N) (i : Fin 192) (k : Fin 192) :
    iblk2 V c 1 t (ix2 i k) = V c main_v207 (ix2 i k) := by
  blk_ext [iblk2, idx t]

theorem block_2 (c : Dev nD) (t : Fin cfg2.N) (i : Fin 192) (k : Fin 192) :
    iblk2 V c 2 t (ix2 i k) = V c main_v209 (ix2 i k) := by
  blk_ext [iblk2, idx t]

theorem block_3 (c : Dev nD) (t : Fin cfg2.N) (i : Fin 1) (k : Fin 192) :
    iblk2 V c 3 t (ix2 i k) = V c main_v210 (ix2 i k) := by
  blk_ext [iblk2, idx t]

theorem block_4 (c : Dev nD) (t : Fin cfg2.N) (i : Fin 192) (k : Fin 768) :
    iblk2 V c 4 t (ix2 i k) = V c main_v211 (ix2 i k) := by
  blk_ext [iblk2, idx t]

theorem block_5 (c : Dev nD) (t : Fin cfg2.N) (i : Fin 1) (k : Fin 768) :
    iblk2 V c 5 t (ix2 i k) = V c main_v212 (ix2 i k) := by
  blk_ext [iblk2, idx t]

theorem block_6 (c : Dev nD) (t : Fin cfg2.N) (i : Fin 768) (k : Fin 192) :
    iblk2 V c 6 t (ix2 i k) = V c main_v213 (ix2 i k) := by
  blk_ext [iblk2, idx t]

theorem block_7 (c : Dev nD) (t : Fin cfg2.N) (i : Fin 1) (k : Fin 192) :
    iblk2 V c 7 t (ix2 i k) = V c main_v214 (ix2 i k) := by
  blk_ext [iblk2, idx t]

/-- The array's number for one image and feature. -/
def row (c : Dev nD) (b : Fin 128) (k : Fin 192) : EReal :=
  Net.pool (conv (fun i k => V c main_v205 (ix3 b i k)) (fun i k => V c main_v207 (ix2 i k))
      (fun i k => V c main_v209 (ix2 i k)) (fun k => V c main_v210 (ix2 0 k))) (fun i k => V c main_v211 (ix2 i k))
    (fun k => V c main_v212 (ix2 0 k)) (fun i k => V c main_v213 (ix2 i k)) (fun k => V c main_v214 (ix2 0 k)) k

/-- What a step stores, of the arrays. -/
theorem point (c : Dev nD) (hf : ∀ i, Num (V c main_v205 i)) (t : Fin cfg2.N) (z : Fin 1) (n : Fin 4) (k : Fin 192)
    (b : Fin 128) (hb : b.val = 4 * t.val + n.val) :
    stored (iblk2 V c 0 t) (iblk2 V c 1 t) (iblk2 V c 2 t) (iblk2 V c 3 t) (iblk2 V c 4 t) (iblk2 V c 5 t)
      (iblk2 V c 6 t) (iblk2 V c 7 t) (ix3 z n k) = row V c b k := by
  have ht : t.val < 32 := t.isLt
  obtain rfl : z = 0 := Subsingleton.elim _ _
  rw [stored_at (iblk2 V c 0 t) fun i => by
    obtain ⟨x, y, z, rfl⟩ := exists_ix3 i
    rw [block_0 V c t x y z ⟨4 * t.val + x.val, by omega⟩ rfl]
    exact hf _]
  unfold row
  simp only [block_0 V c t n _ _ b hb, block_1, block_2, block_3, block_4, block_5, block_6, block_7]

theorem array_at (c : Dev nD) (hf : ∀ i, Num (V c main_v205 i)) :
    (dat2 V c).arrAt 8 cfg2.N = fun y : S32x4x192.Idx => row V c ⟨4 * (y 0).val + (y 1).val, by
      have h0 : (y 0).val < 32 := (y 0).isLt
      have h1 : (y 1).val < 4 := (y 1).isLt
      omega⟩ (y 2) := by
  refine (dat2 V c).arrAt_eq_of_covers 8 _ (by decide +kernel) fun t _ y => ?_
  blk_simp
  rw [after2_8, out2_8_eq]
  rw [View.canon_cons_unit_lit _ _ _ (by decide)]
  rw [View.ld_unit_lit _ _ (by decide), View.ld_unit_lit _ _ (by decide), View.ld_unit_lit _ _ (by decide),
    View.ld_unit_lit _ _ (by decide), View.ld_unit_lit _ _ (by decide), View.ld_unit_lit _ _ (by decide),
    View.ld_unit_lit _ _ (by decide), View.ld_unit_lit _ _ (by decide)]
  obtain ⟨z, n, k, rfl⟩ : ∃ (z : Fin 1) (n : Fin 4) (k : Fin 192), y = ix3 z n k := exists_ix3 y
  refine (point V c hf t z n k _ ?_).trans (congrArg (row V c _) (Fin.ext ?_))
  · simp only [idx t]
    simp
  · blk_simp
    simp only [idx t]
    simp

end Cert.Proof.Graph
-- ==== Proof.HeadArray.lean ====
/-  The array the head launch leaves: the network's head, row by row. -/
module

public import proofs.«01_k».proof.Proof.Gen.KernelIdeal.Frame
public import proofs.«01_k».proof.Proof.Net

@[expose] public section

set_option maxRecDepth 16384

noncomputable section

namespace Cert.Proof.Head

open Idealize.ShloMosaic Idealize.ShloMosaic.TcCoe Cert.KernelIdeal Cert.KernelIdeal.Gen Cert.Proof.Net
open Idealize.ShloMosaic.Pipeline (Dat)

theorem stored_at (z : Vec Ideal S128x192 .f32) (w1 : Vec Ideal S192x1024 .f32) (b1 : Vec Ideal S1x1024 .f32)
    (w2 : Vec Ideal S1024x10 .f32) (b2 : Vec Ideal S1x10 .f32) (b : Fin 128) (o : Fin 10) :
    k3_pay1 z w1 b1 w2 b2 (ix2 b o) = head (fun c => z (ix2 b c)) (fun c k => w1 (ix2 c k)) (fun k => b1 (ix2 0 k))
      (fun k o => w2 (ix2 k o)) (fun o => b2 (ix2 0 o)) o := by
  unfold head layer gelu
  pointwise [k3_pay1]

variable (V : (c : Dev nD) → (b : Ref sig .tc) → Buf (Elt Ideal) ((c : Thread nD τ).loc b))

theorem idx : ∀ t : Fin cfg3.N, win3_0.index t = ![0, 0] ∧ win3_1.index t = ![0, 0] ∧ win3_2.index t = ![0, 0]
    ∧ win3_3.index t = ![0, 0] ∧ win3_4.index t = ![0, 0] ∧ win3_5.index t = ![0, 0] :=
  (by decide +kernel : ∀ t : Fin grid3.N, _)

theorem block_0 (c : Dev nD) (t : Fin cfg3.N) (i : Fin 128) (k : Fin 192) :
    iblk3 V c 0 t (ix2 i k) = V c main_v216 (ix2 i k) := by
  blk_ext [iblk3, idx t]

theorem block_1 (c : Dev nD) (t : Fin cfg3.N) (i : Fin 192) (k : Fin 1024) :
    iblk3 V c 1 t (ix2 i k) = V c main_arg9 (ix2 i k) := by
  blk_ext [iblk3, idx t]

theorem block_2 (c : Dev nD) (t : Fin cfg3.N) (i : Fin 1) (k : Fin 1024) :
    iblk3 V c 2 t (ix2 i k) = V c main_v217 (ix2 i k) := by
  blk_ext [iblk3, idx t]

theorem block_3 (c : Dev nD) (t : Fin cfg3.N) (i : Fin 1024) (k : Fin 10) :
    iblk3 V c 3 t (ix2 i k) = V c main_arg11 (ix2 i k) := by
  blk_ext [iblk3, idx t]

theorem block_4 (c : Dev nD) (t : Fin cfg3.N) (i : Fin 1) (k : Fin 10) :
    iblk3 V c 4 t (ix2 i k) = V c main_v218 (ix2 i k) := by
  blk_ext [iblk3, idx t]

/-- The array's number for one image and class. -/
def out (c : Dev nD) (b : Fin 128) (o : Fin 10) : EReal :=
  head (fun k => V c main_v216 (ix2 b k)) (fun i k => V c main_arg9 (ix2 i k)) (fun k => V c main_v217 (ix2 0 k))
    (fun i k => V c main_arg11 (ix2 i k)) (fun k => V c main_v218 (ix2 0 k)) o

theorem array_at (c : Dev nD) : (dat3 V c).arrAt 5 cfg3.N = fun y : S128x10.Idx => out V c (y 0) (y 1) := by
  refine (dat3 V c).arrAt_eq_of_covers 5 _ (by decide +kernel) fun t _ y => ?_
  blk_simp
  rw [after3_5]
  frame_out
  obtain ⟨b, o, rfl⟩ : ∃ (b : Fin 128) (o : Fin 10), y = ix2 b o := exists_ix2 y
  refine (stored_at _ _ _ _ _ b o).trans ?_
  simp only [block_0, block_1, block_2, block_3, block_4]
  refine congrArg₂ (out V c) (Fin.ext ?_) (Fin.ext ?_) <;> blk_simp <;> simp only [idx t] <;> simp

end Cert.Proof.Head
-- ==== Proof.KernelValue.lean ====
/-  The kernel's result, read back through its four launches and the operations between them to the arguments. -/
module

public import proofs.«01_k».proof.Proof.HostReads
public import proofs.«01_k».proof.Proof.FoldedWeights
public import proofs.«01_k».proof.Proof.Weights
public import proofs.«01_k».proof.Proof.Embedding
public import proofs.«01_k».proof.Proof.ResizeArray
public import proofs.«01_k».proof.Proof.EmbedArray
public import proofs.«01_k».proof.Proof.GraphArray
public import proofs.«01_k».proof.Proof.HeadArray

@[expose] public section

set_option maxRecDepth 16384

noncomputable section

namespace Cert.Proof.KernelValue

open Idealize.ShloMosaic Idealize.ShloMosaic.TcCoe Cert.KernelIdeal Cert.KernelIdeal.Gen Cert.Proof.Net

variable (m : (ℓ : Loc nD τ sig) → Buf (Elt Ideal) ℓ) (ρ : Dev nD → PrngReg) (c : Dev nD)

/-- The images. -/
def images : Embedding.Images := fun b ch i w => m ((c : Thread nD τ).loc main_arg0) (ix4 b ch i w)

/-- The resize's weights. -/
def scale (i : Fin 32) (p : Fin 224) : EReal := Weights.weights (ix2 i p)

/-- The embedding's weights and bias. -/
def wp (q : Fin 768) (k : Fin 192) : EReal := m ((c : Thread nD τ).loc main_arg1) (ix2 q k)
def bp (k : Fin 192) : EReal := m ((c : Thread nD τ).loc main_arg2) (ix1 k)

/-- The nodes' features, as the kernel adds them up. -/
def nodes : Fin 128 → Fin 196 → Fin 192 → EReal :=
  Embedding.folded (images m c) scale (wp m c) (bp m c)

theorem weights_eq : W6 m ρ c (Proc.devRef .tc main_v42) = Weights.weights := Weights.kernel_eq (W0 m ρ c)

theorem columns_at (w : Fin 32) (p : Fin 224) :
    V7 m ρ c main_v55 (ix2 w p) = scale w ⟨p.val % 14 * 16 + p.val / 14, by omega⟩ :=
  (HostReads.permuted_at (W6 m ρ c) w p).trans (congrFun (weights_eq m ρ c) _)

theorem rows_at (r : Fin 12288) (w : Fin 32) : V7 m ρ c main_v56 (ix2 r w)
    = images m c ⟨r.val / 96, by omega⟩ ⟨r.val / 32 % 3, by omega⟩ ⟨r.val % 32, by omega⟩ w :=
  (HostReads.images_at (W6 m ρ c) r w).trans (congrFun (W6_args m ρ c main_arg0 (by decide)) _)

theorem transposed_at (p : Fin 224) (i : Fin 32) : W8 m ρ c (Proc.devRef .tc main_v43) (ix2 p i) = scale i p :=
  (congrFun (W8_of m ρ c main_v43 (by decide)) _).trans
    ((HostReads.transposed_at (W6 m ρ c) p i).trans (congrFun (weights_eq m ρ c) _))

theorem resized_at (r : Fin 12288) (p : Fin 224) : W8 m ρ c (Proc.devRef .tc main_v57) (ix2 r p)
    = dotp (fun w => images m c ⟨r.val / 96, by omega⟩ ⟨r.val / 32 % 3, by omega⟩ ⟨r.val % 32, by omega⟩ w)
        (fun w => scale w ⟨p.val % 14 * 16 + p.val / 14, by omega⟩) := by
  refine (congrFun (W8_arr m ρ c 2) (ix2 r p)).trans ?_
  refine (congrFun (Resize.array_at (V7 m ρ) c) (ix2 r p)).trans ?_
  exact congrArg₂ dotp (funext fun w => rows_at m ρ c r w) (funext fun w => columns_at m ρ c w p)

theorem piled_at (b : Fin 128) (p : Fin 224) (q : Fin 96) : V9 m ρ c main_v60 (ix3 b p q)
    = dotp (fun w => images m c b ⟨q.val / 32, by omega⟩ ⟨q.val % 32, by omega⟩ w)
        (fun w => scale w ⟨p.val % 14 * 16 + p.val / 14, by omega⟩) := by
  refine (HostReads.resized_at (W8 m ρ c) b p q).trans ((resized_at m ρ c _ p).trans ?_)
  refine congrArg (fun x => dotp x _) (funext fun w => ?_)
  congr 1 <;> refine Fin.ext ?_ <;> dsimp only <;> omega

theorem folded_at (py : Fin 14) (q : Fin 1536) (k : Fin 192) : V9 m ρ c main_v202 (ix3 py q k)
    = ∑ u : Fin 16, scale ⟨q.val % 32, by omega⟩ ⟨16 * py.val + u.val, by omega⟩
      * wp m c ⟨q.val / 32 % 3 * 256 + u.val * 16 + q.val / 96, by omega⟩ k := by
  refine (congrFun (FoldedWeights.weights_eq (W8 m ρ c)) _).trans ((FoldedWeights.folded_at _ _ py q k).trans ?_)
  refine Finset.sum_congr rfl fun u _ => congrArg₂ (fun a b : EReal => a * b) (transposed_at m ρ c _ _) ?_
  exact congrFun (W8_args m ρ c main_arg1 (by decide)) _

theorem nodes_at (b : Fin 128) (i : Fin 196) (k : Fin 192) : V11 m ρ c main_v205 (ix3 b i k) = nodes m c b i k := by
  refine (HostReads.nodes_at (W10 m ρ c) b i k).trans ?_
  refine (congrFun (W10_arr m ρ c 3) _).trans ?_
  refine (congrFun (Embed.array_at (V9 m ρ) c) _).trans ?_
  show Embed.out (V9 m ρ) c b ⟨i.val / 14, _⟩ ⟨i.val % 14, _⟩ k = _
  unfold Embed.out nodes Embedding.folded
  refine congrArg (· k) (congr (congr (congrArg layer (funext fun q => ?_)) (funext fun q => funext fun k => ?_))
    (funext fun k => ?_))
  · refine (piled_at m ρ c b _ _).trans (congrArg₂ dotp (funext fun w => ?_) (funext fun w => ?_))
    · congr 1 <;> refine Fin.ext ?_ <;> dsimp only <;> omega
    · refine congrArg (scale w) (Fin.ext ?_); dsimp only; omega
  · exact folded_at m ρ c _ q k
  · exact (HostReads.bias_at (W8 m ρ c) 0 k).trans (congrFun (W8_args m ρ c main_arg2 (by decide)) _)

/-- The kernel's result, of its nodes' features and the rest of its arguments. -/
def out (b : Fin 128) (o : Fin 10) : EReal :=
  Net.head (Net.pool (conv (nodes m c b)
      (fun d k => m ((c : Thread nD τ).loc main_arg3) (ix2 ⟨d.val, by omega⟩ k))
      (fun d k => m ((c : Thread nD τ).loc main_arg3) (ix2 ⟨192 + d.val, by omega⟩ k))
      (fun k => m ((c : Thread nD τ).loc main_arg4) (ix1 k)))
    (fun d k => m ((c : Thread nD τ).loc main_arg5) (ix2 d k)) (fun k => m ((c : Thread nD τ).loc main_arg6) (ix1 k))
    (fun d k => m ((c : Thread nD τ).loc main_arg7) (ix2 d k)) (fun k => m ((c : Thread nD τ).loc main_arg8) (ix1 k)))
    (fun d k => m ((c : Thread nD τ).loc main_arg9) (ix2 d k)) (fun k => m ((c : Thread nD τ).loc main_arg10) (ix1 k))
    (fun d k => m ((c : Thread nD τ).loc main_arg11) (ix2 d k)) (fun k => m ((c : Thread nD τ).loc main_arg12) (ix1 k)) o

theorem pooled_at (hf : ∀ b i k, Num (nodes m c b i k)) (b : Fin 128) (k : Fin 192) : V13 m ρ c main_v216 (ix2 b k)
    = Net.pool (conv (nodes m c b)
      (fun d k => m ((c : Thread nD τ).loc main_arg3) (ix2 ⟨d.val, by omega⟩ k))
      (fun d k => m ((c : Thread nD τ).loc main_arg3) (ix2 ⟨192 + d.val, by omega⟩ k))
      (fun k => m ((c : Thread nD τ).loc main_arg4) (ix1 k)))
    (fun d k => m ((c : Thread nD τ).loc main_arg5) (ix2 d k)) (fun k => m ((c : Thread nD τ).loc main_arg6) (ix1 k))
    (fun d k => m ((c : Thread nD τ).loc main_arg7) (ix2 d k)) (fun k => m ((c : Thread nD τ).loc main_arg8) (ix1 k)) k := by
  have hn : ∀ i, Num (V11 m ρ c main_v205 i) := fun i => by
    obtain ⟨b, i, k, rfl⟩ := exists_ix3 (a := 128) (b := 196) (c := 192) i
    rw [nodes_at]; exact hf b i k
  refine (HostReads.pooled_at (W12 m ρ c) b k).trans ?_
  refine (congrFun (W12_arr m ρ c 8) _).trans ?_
  refine (congrFun (Graph.array_at (V11 m ρ) c hn) _).trans ?_
  show Graph.row (V11 m ρ) c ⟨4 * (b.val / 4) + b.val % 4, _⟩ k = _
  rw [show (⟨4 * (b.val / 4) + b.val % 4, by omega⟩ : Fin 128) = b from Fin.ext (by dsimp only; omega)]
  unfold Graph.row
  refine congrArg (· k) (congr (congr (congr (congr (congrArg Net.pool (congr (congr (congr (congrArg conv ?_) ?_) ?_) ?_))
    ?_) ?_) ?_) ?_)
  · exact funext fun i => funext fun k => nodes_at m ρ c b i k
  · exact funext fun d => funext fun k =>
      (HostReads.wg1_at (W10 m ρ c) d k).trans (congrFun (W10_args m ρ c main_arg3 (by decide)) _)
  · exact funext fun d => funext fun k =>
      (HostReads.wg2_at (W10 m ρ c) d k).trans (congrFun (W10_args m ρ c main_arg3 (by decide)) _)
  · exact funext fun k => (HostReads.bg_at (W10 m ρ c) 0 k).trans (congrFun (W10_args m ρ c main_arg4 (by decide)) _)
  · exact funext fun d => funext fun k =>
      (HostReads.w1_at (W10 m ρ c) d k).trans (congrFun (W10_args m ρ c main_arg5 (by decide)) _)
  · exact funext fun k => (HostReads.b1_at (W10 m ρ c) 0 k).trans (congrFun (W10_args m ρ c main_arg6 (by decide)) _)
  · exact funext fun d => funext fun k =>
      (HostReads.w2_at (W10 m ρ c) d k).trans (congrFun (W10_args m ρ c main_arg7 (by decide)) _)
  · exact funext fun k => (HostReads.b2_at (W10 m ρ c) 0 k).trans (congrFun (W10_args m ρ c main_arg8 (by decide)) _)

theorem result_at (hf : ∀ b i k, Num (nodes m c b i k)) (b : Fin 128) (o : Fin 10) :
    W14 m ρ c (Proc.devRef .tc main_v219) (ix2 b o) = out m c b o := by
  refine (congrFun (W14_arr m ρ c 5) (ix2 b o)).trans ?_
  refine (congrFun (Head.array_at (V13 m ρ) c) (ix2 b o)).trans ?_
  show Head.out (V13 m ρ) c b o = _
  unfold Head.out out
  refine congrArg (· o) (congr (congr (congr (congr (congrArg Net.head ?_) ?_) ?_) ?_) ?_)
  · exact funext fun k => pooled_at m ρ c hf b k
  · exact funext fun d => funext fun k => congrFun (W13_args m ρ c main_arg9 (by decide)) _
  · exact funext fun k => (HostReads.bh1_at (W12 m ρ c) 0 k).trans (congrFun (W12_args m ρ c main_arg10 (by decide)) _)
  · exact funext fun d => funext fun k => congrFun (W13_args m ρ c main_arg11 (by decide)) _
  · exact funext fun k => (HostReads.bh2_at (W12 m ρ c) 0 k).trans (congrFun (W12_args m ρ c main_arg12 (by decide)) _)

end Cert.Proof.KernelValue
-- ==== Proof.ReferenceTerm.lean ====
/-  What the reference computes, step by step, as functions of its arguments, and that its run ends with them. -/
module

public import Idealize.ShloMosaic.Lib.Quiescent
public import proofs.«01_k».proof.Proof.Gen.ReferenceIdeal
public import proofs.«01_k».proof.Proof.Weights
public import Idealize.ShloMosaic.Lib.StableHlo.ReadAt
public import Idealize.ShloMosaic.Lib.Claim

@[expose] public section

set_option maxRecDepth 16384

noncomputable section

namespace Cert.Proof.Reference

open Idealize.ShloMosaic Idealize.ShloMosaic.TcCoe Cert.ReferenceIdeal Cert.ReferenceIdeal.Gen Idealize.SL.Sem

/-- The images, resized. -/
def resized (x : FVec Ideal S128x3x32x32 .f32) : FVec Ideal S128x3x224x224 .f32 :=
  transpose S128x3x224x224 [1, 2, 0, 3] (Host.dotGeneral dot_S224x128x3x32_S32x224_S224x128x3x224_3_0_012_1_n_n (some .fp32)
    (Host.dotGeneral dot_S32x224_S128x3x32x32_S224x128x3x32_0_2_1_013_n_n (some .fp32) Weights.weights x
      : FVec Ideal S224x128x3x32 .f32) Weights.weights : FVec Ideal S224x128x3x224 .f32)
    transposes_S224x128x3x224_S128x3x224x224_1_2_0_3

/-- The patches of the resized images, each in a row. -/
def patches (y : FVec Ideal S128x3x224x224 .f32) : FVec Ideal S128x196x768 .f32 :=
  shapeCast S128x196x768 (transpose S128x14x14x3x16x16 [0, 2, 4, 1, 3, 5]
    (shapeCast S128x3x14x16x14x16 y shapeCasts_S128x3x224x224_S128x3x14x16x14x16 : FVec Ideal S128x3x14x16x14x16 .f32)
    transposes_S128x3x14x16x14x16_S128x14x14x3x16x16_0_2_4_1_3_5 : FVec Ideal S128x14x14x3x16x16 .f32)
    shapeCasts_S128x14x14x3x16x16_S128x196x768

/-- A bias of 192 features, at every node. -/
def bias (b : FVec Ideal S192 .f32) : FVec Ideal S128x196x192 .f32 :=
  broadcastInDim S128x196x192 ![0, 1, 2] bcast_S1x1x192_S128x196x192_0_1_2
    (broadcastInDim S1x1x192 ![2] bcast_S192_S1x1x192_2 b : FVec Ideal S1x1x192 .f32)

/-- The nodes' features, of the resized images. -/
def embedded (y : FVec Ideal S128x3x224x224 .f32) (wp : FVec Ideal S768x192 .f32) (bp : FVec Ideal S192 .f32) :
    FVec Ideal S128x196x192 .f32 :=
  addf (Host.dotGeneral dot_S128x196x768_S768x192_S128x196x192_2_0_01_1_n_n none (patches y) wp) (bias bp)

/-- The nodes' features. -/
def nodes (x : FVec Ideal S128x3x32x32 .f32) (wp : FVec Ideal S768x192 .f32) (bp : FVec Ideal S192 .f32) :
    FVec Ideal S128x196x192 .f32 :=
  embedded (resized x) wp bp

/-- The squares of the nodes' lengths. -/
def squares (h : FVec Ideal S128x196x192 .f32) : FVec Ideal S128x196 .f32 :=
  Host.reduceAdd (mulf h h) (constant S_ .f32 0x00000000#32) reducesTo_S128x196x192_S128x196_d2 h_S_

/-- The squared distances between an image's nodes, negated. -/
def closeness (h : FVec Ideal S128x196x192 .f32) : FVec Ideal S128x196x196 .f32 :=
  Host.negf (subf (addf
      (broadcastInDim S128x196x196 ![0, 1, 2] bcast_S128x196x1_S128x196x196_0_1_2
        (broadcastInDim S128x196x1 ![0, 1] bcast_S128x196_S128x196x1_0_1 (squares h)))
      (broadcastInDim S128x196x196 ![0, 1, 2] bcast_S128x1x196_S128x196x196_0_1_2
        (broadcastInDim S128x1x196 ![0, 2] bcast_S128x196_S128x1x196_0_2 (squares h))))
    (mulf (broadcastInDim S128x196x196 ![] bcast_S_S128x196x196 (constant S_ .f32 0x40000000#32))
      (Host.dotGeneral dot_S128x196x192_S128x192x196_S128x196x196_2_1_1_2_0_0 none h
        (transpose S128x192x196 [0, 2, 1] h transposes_S128x196x192_S128x192x196_0_2_1))))

/-- The numbers of the nine nearest nodes. -/
def nearest (h : FVec Ideal S128x196x192 .f32) : IVec S128x196x9 32 :=
  (Host.topK S128x196x9 2 (FloatOps.cmpfTotal .gt) (closeness h) sliceFits_S128x196x196_S128x196x9).2

/-- The same, as the gather takes them. -/
def starts (ix : IVec S128x196x9 32) : IVec S128x196x9x1 32 :=
  broadcastInDim S128x196x9x1 ![0, 1, 2] bcast_S128x196x9_S128x196x9x1_0_1_2
    (select (cmpi .slt ix (broadcastInDim S128x196x9 ![] bcast_S_S128x196x9 (constantI S_ 32 0#32)))
      (addi ix (broadcastInDim S128x196x9 ![] bcast_S_S128x196x9 (constantI S_ 32 196#32))) ix)

/-- The nearest nodes' features less the node's own. -/
def differences (h : FVec Ideal S128x196x192 .f32) : FVec Ideal S128x196x9x192 .f32 :=
  subf (Host.gather gather_S128x196x192_S128x196x9x1_S128x196x9x192_3_1_0_0_1_3_11192 h (starts (nearest h)))
    (broadcastInDim S128x196x9x192 ![0, 1, 2, 3] bcast_S128x196x1x192_S128x196x9x192_0_1_2_3
      (broadcastInDim S128x196x1x192 ![0, 1, 3] bcast_S128x196x192_S128x196x1x192_0_1_3 h))

/-- The greatest difference in each feature. -/
def greatest (h : FVec Ideal S128x196x192 .f32) : FVec Ideal S128x196x192 .f32 :=
  Host.reduce FloatOps.maximumf (differences h) (constant S_ .f32 0xFF800000#32)
    reducesTo_S128x196x9x192_S128x196x192_d2 h_S_

/-- Each node's features and greatest differences, in one row. -/
def joined (h : FVec Ideal S128x196x192 .f32) (g : FVec Ideal S128x196x192 .f32) : FVec Ideal S128x196x384 .f32 :=
  concatenate S128x196x384 2 [⟨S128x196x192, h⟩, ⟨S128x196x192, g⟩]
    concatenates_S128x196x192_S128x196x192_S128x196x384_d2

/-- The graph convolution with its residual. -/
def convolved (h : FVec Ideal S128x196x192 .f32) (j : FVec Ideal S128x196x384 .f32) (wg : FVec Ideal S384x192 .f32)
    (bg : FVec Ideal S192 .f32) : FVec Ideal S128x196x192 .f32 :=
  addf h (addf (Host.dotGeneral dot_S128x196x384_S384x192_S128x196x192_2_0_01_1_n_n none j wg) (bias bg))

/-- The activation, applied to each element. -/
def act {s : Shape} (hb : S_.BroadcastsInDim s (![] : Fin 0 → Fin s.rank)) (u : FVec Ideal s .f32) : FVec Ideal s .f32 :=
  mulf u (mulf (broadcastInDim s ![] hb (constant S_ .f32 0x3F000000#32))
    (addf (broadcastInDim s ![] hb (constant S_ .f32 0x3F800000#32))
      (Host.tanh (mulf (broadcastInDim s ![] hb (constant S_ .f32 0x3F4C422A#32))
        (addf u (mulf (broadcastInDim s ![] hb (constant S_ .f32 0x3D372713#32)) (mulf (mulf u u) u)))))))

/-- The hidden layer of the feed-forward pair. -/
def hidden (h : FVec Ideal S128x196x192 .f32) (w1 : FVec Ideal S192x768 .f32) (b1 : FVec Ideal S768 .f32) :
    FVec Ideal S128x196x768 .f32 :=
  addf (Host.dotGeneral dot_S128x196x192_S192x768_S128x196x768_2_0_01_1_n_n none h w1)
    (broadcastInDim S128x196x768 ![0, 1, 2] bcast_S1x1x768_S128x196x768_0_1_2
      (broadcastInDim S1x1x768 ![2] bcast_S768_S1x1x768_2 b1 : FVec Ideal S1x1x768 .f32))

/-- The feed-forward pair with its residual. -/
def fed (h : FVec Ideal S128x196x192 .f32) (w1 : FVec Ideal S192x768 .f32) (b1 : FVec Ideal S768 .f32)
    (w2 : FVec Ideal S768x192 .f32) (b2 : FVec Ideal S192 .f32) : FVec Ideal S128x196x192 .f32 :=
  addf h (addf (Host.dotGeneral dot_S128x196x768_S768x192_S128x196x192_2_0_01_1_n_n none
    (act bcast_S_S128x196x768 (hidden h w1 b1)) w2) (bias b2))

/-- The mean over an image's nodes. -/
def mean (h : FVec Ideal S128x196x192 .f32) : FVec Ideal S128x192 .f32 :=
  Host.divf (Host.reduceAdd h (constant S_ .f32 0x00000000#32) reducesTo_S128x196x192_S128x192_d1 h_S_)
    (broadcastInDim S128x192 ![] bcast_S_S128x192 (constant S_ .f32 0x43440000#32))

/-- The head's hidden layer. -/
def headHidden (z : FVec Ideal S128x192 .f32) (w1 : FVec Ideal S192x1024 .f32) (b1 : FVec Ideal S1024 .f32) :
    FVec Ideal S128x1024 .f32 :=
  addf (Host.dotGeneral dot_S128x192_S192x1024_S128x1024_1_0_0_1_n_n none z w1)
    (broadcastInDim S128x1024 ![0, 1] bcast_S1x1024_S128x1024_0_1
      (broadcastInDim S1x1024 ![1] bcast_S1024_S1x1024_1 b1 : FVec Ideal S1x1024 .f32))

/-- The head. -/
def head (z : FVec Ideal S128x192 .f32) (w1 : FVec Ideal S192x1024 .f32) (b1 : FVec Ideal S1024 .f32)
    (w2 : FVec Ideal S1024x10 .f32) (b2 : FVec Ideal S10 .f32) : FVec Ideal S128x10 .f32 :=
  addf (Host.dotGeneral dot_S128x1024_S1024x10_S128x10_1_0_0_1_n_n none
    (act bcast_S_S128x1024 (headHidden z w1 b1)) w2)
    (broadcastInDim S128x10 ![0, 1] bcast_S1x10_S128x10_0_1
      (broadcastInDim S1x10 ![1] bcast_S10_S1x10_1 b2 : FVec Ideal S1x10 .f32))

/-- The network from the nodes' features on. -/
def network (h : FVec Ideal S128x196x192 .f32) (wg : FVec Ideal S384x192 .f32) (bg : FVec Ideal S192 .f32)
    (w1 : FVec Ideal S192x768 .f32) (b1 : FVec Ideal S768 .f32) (w2 : FVec Ideal S768x192 .f32) (b2 : FVec Ideal S192 .f32)
    (wh1 : FVec Ideal S192x1024 .f32) (bh1 : FVec Ideal S1024 .f32) (wh2 : FVec Ideal S1024x10 .f32)
    (bh2 : FVec Ideal S10 .f32) : FVec Ideal S128x10 .f32 :=
  head (mean (fed (convolved h (joined h (greatest h)) wg bg) w1 b1 w2 b2)) wh1 bh1 wh2 bh2

/-- The network of what each stage's last buffer holds, given that each holds the stage's function of the earlier ones. -/
theorem stages (A V : Valuation τ sig (Elt Ideal))
    (h0 : A (Proc.devRef .tc main_v0) = resized (V (Proc.devRef .tc main_arg0)))
    (h7 : A (Proc.devRef .tc main_v7) = embedded (A (Proc.devRef .tc main_v0)) (V (Proc.devRef .tc main_arg1))
      (V (Proc.devRef .tc main_arg2)))
    (h31 : A (Proc.devRef .tc main_v31) = greatest (A (Proc.devRef .tc main_v7)))
    (h32 : A (Proc.devRef .tc main_v32) = joined (A (Proc.devRef .tc main_v7)) (A (Proc.devRef .tc main_v31)))
    (h37 : A (Proc.devRef .tc main_v37) = convolved (A (Proc.devRef .tc main_v7)) (A (Proc.devRef .tc main_v32))
      (V (Proc.devRef .tc main_arg3)) (V (Proc.devRef .tc main_arg4)))
    (h59 : A (Proc.devRef .tc main_v59) = fed (A (Proc.devRef .tc main_v37)) (V (Proc.devRef .tc main_arg5))
      (V (Proc.devRef .tc main_arg6)) (V (Proc.devRef .tc main_arg7)) (V (Proc.devRef .tc main_arg8)))
    (h62 : A (Proc.devRef .tc main_v62) = mean (A (Proc.devRef .tc main_v59)))
    (h83 : A (Proc.devRef .tc main_v83) = head (A (Proc.devRef .tc main_v62)) (V (Proc.devRef .tc main_arg9))
      (V (Proc.devRef .tc main_arg10)) (V (Proc.devRef .tc main_arg11)) (V (Proc.devRef .tc main_arg12))) :
    A (Proc.devRef .tc main_v83) = network (nodes (V (Proc.devRef .tc main_arg0)) (V (Proc.devRef .tc main_arg1))
        (V (Proc.devRef .tc main_arg2))) (V (Proc.devRef .tc main_arg3)) (V (Proc.devRef .tc main_arg4))
      (V (Proc.devRef .tc main_arg5)) (V (Proc.devRef .tc main_arg6)) (V (Proc.devRef .tc main_arg7))
      (V (Proc.devRef .tc main_arg8)) (V (Proc.devRef .tc main_arg9)) (V (Proc.devRef .tc main_arg10))
      (V (Proc.devRef .tc main_arg11)) (V (Proc.devRef .tc main_arg12)) := by
  rw [h83, h62, h59, h37, h32, h31, h7, h0]
  rfl

variable (m : (ℓ : Loc nD τ sig) → Buf (Elt Ideal) ℓ) (ρ : Dev nD → PrngReg)

/-- The reference's result, of the arguments in memory. -/
def result (d : Dev nD) : FVec Ideal S128x10 .f32 :=
  network (nodes (m ((d.tc : Thread nD τ).loc main_arg0)) (m ((d.tc : Thread nD τ).loc main_arg1))
      (m ((d.tc : Thread nD τ).loc main_arg2)))
    (m ((d.tc : Thread nD τ).loc main_arg3)) (m ((d.tc : Thread nD τ).loc main_arg4)) (m ((d.tc : Thread nD τ).loc main_arg5))
    (m ((d.tc : Thread nD τ).loc main_arg6)) (m ((d.tc : Thread nD τ).loc main_arg7)) (m ((d.tc : Thread nD τ).loc main_arg8))
    (m ((d.tc : Thread nD τ).loc main_arg9)) (m ((d.tc : Thread nD τ).loc main_arg10))
    (m ((d.tc : Thread nD τ).loc main_arg11)) (m ((d.tc : Thread nD τ).loc main_arg12))

set_option maxHeartbeats 4000000 in
/-- The reference runs, ends with its result, and leaves its arguments as they were. -/
theorem run : θ_run defs (onTc (τ := τ) (main (F := Ideal))) ⟨m, fun _ => 0, ρ⟩ fun r => (∀ d : Dev nD,
    r.2.mem ((d.tc : Thread nD τ).loc main_v83) = result m d
    ∧ r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)
    ∧ r.2.mem ((d.tc : Thread nD τ).loc main_arg3) = m ((d.tc : Thread nD τ).loc main_arg3)
    ∧ r.2.mem ((d.tc : Thread nD τ).loc main_arg4) = m ((d.tc : Thread nD τ).loc main_arg4)
    ∧ r.2.mem ((d.tc : Thread nD τ).loc main_arg5) = m ((d.tc : Thread nD τ).loc main_arg5)
    ∧ r.2.mem ((d.tc : Thread nD τ).loc main_arg6) = m ((d.tc : Thread nD τ).loc main_arg6)
    ∧ r.2.mem ((d.tc : Thread nD τ).loc main_arg7) = m ((d.tc : Thread nD τ).loc main_arg7)
    ∧ r.2.mem ((d.tc : Thread nD τ).loc main_arg8) = m ((d.tc : Thread nD τ).loc main_arg8)
    ∧ r.2.mem ((d.tc : Thread nD τ).loc main_arg9) = m ((d.tc : Thread nD τ).loc main_arg9)
    ∧ r.2.mem ((d.tc : Thread nD τ).loc main_arg10) = m ((d.tc : Thread nD τ).loc main_arg10)
    ∧ r.2.mem ((d.tc : Thread nD τ).loc main_arg11) = m ((d.tc : Thread nD τ).loc main_arg11)
    ∧ r.2.mem ((d.tc : Thread nD τ).loc main_arg12) = m ((d.tc : Thread nD τ).loc main_arg12)) ∧ r.2.sem = fun _ => 0 := by
  refine θ_run_mono (StableHlo.run_hlo _ _ (by hlo_seq) (by decide) (by decide) (by simp)
    (by intro _ h; (repeat (cases h with | head => rfl | tail _ h => ?_)); exact nomatch h) m ρ) ?_
  intro r h
  refine ⟨fun d => ⟨(h d _).trans ?_, ?_⟩, ?_⟩
  · refine stages _ (StableHlo.launchContents m d) ?_ ?_ ?_ ?_ ?_ ?_ ?_ ?_
    all_goals generalize StableHlo.launchContents m d = V
    · after_reads_simp; rfl
    · after_reads_simp; rfl
    · after_reads_simp; rfl
    · after_reads_simp; refine congrArg₂ (fun h g => joined h g) ?_ ?_ <;> after_reads_simp <;> rfl
    · after_reads_simp; rfl
    · after_reads_simp; rfl
    · after_reads_simp; rfl
    · after_reads_simp; rfl
  · refine ⟨(h d _).trans ?_, (h d _).trans ?_, (h d _).trans ?_, (h d _).trans ?_, (h d _).trans ?_, (h d _).trans ?_, (h d _).trans ?_, (h d _).trans ?_, (h d _).trans ?_, (h d _).trans ?_, (h d _).trans ?_, (h d _).trans ?_, (h d _).trans ?_⟩
    all_goals after_reads_simp
  · exact sem_eq_zero_of_no_sems (by decide) _

end Cert.Proof.Reference
-- ==== Proof.ReferenceNeighbours.lean ====
/-  The reference's nine nearest nodes and the greatest differences to them, read at an index. -/
module

public import proofs.«01_k».proof.Proof.ReferenceTerm
public import Idealize.ShloMosaic.Lib.Tactic.WordOmega

@[expose] public section

set_option maxRecDepth 16384

noncomputable section

namespace Cert.Proof.Reference

open Idealize.ShloMosaic Idealize.ShloMosaic.TcCoe Cert.ReferenceIdeal Cert.ReferenceIdeal.Gen Cert.Proof.Net
open Cert.Proof.Selection

/-- The features of the nodes of one image. -/
def rows (h : FVec Ideal S128x196x192 .f32) (b : Fin 128) (i : Fin 196) (c : Fin 192) : EReal := h (ix3 b i c)

theorem closeness_at (h : FVec Ideal S128x196x192 .f32) (b : Fin 128) (i j : Fin 196) :
    closeness h (ix3 b i j) = -((∑ c, rows h b i c * rows h b i c + ∑ c, rows h b j c * rows h b j c)
      - Ideal.ofBits .f32 0x40000000#32 * ∑ c, rows h b i c * rows h b j c) := by
  pointwise [closeness, squares, rows]

/-- One distance is the lesser where its negation is the greater. -/
theorem closer_iff (f : Fin 196 → Fin 192 → EReal) (hf : ∀ i c, Num (f i c)) (i j k : Fin 196) :
    (-((∑ c, f i c * f i c + ∑ c, f k c * f k c) - Ideal.ofBits .f32 0x40000000#32 * ∑ c, f i c * f k c)
      < -((∑ c, f i c * f i c + ∑ c, f j c * f j c) - Ideal.ofBits .f32 0x40000000#32 * ∑ c, f i c * f j c))
    ↔ key f i j < key f i k := by
  have comm : ∀ j, ∑ c, f i c * f j c = ∑ c, f j c * f i c := fun j => Finset.sum_congr rfl fun c _ => mul_comm _ _
  rw [comm j, comm k]
  unfold key
  obtain ⟨a, ha⟩ := Num.sum Finset.univ fun c => Num.mul (hf i c) (hf i c)
  obtain ⟨sj, hj⟩ := Num.sum Finset.univ fun c => Num.mul (hf j c) (hf j c)
  obtain ⟨sk, hk⟩ := Num.sum Finset.univ fun c => Num.mul (hf k c) (hf k c)
  obtain ⟨gj, hgj⟩ := Num.mul num_two (Num.sum Finset.univ fun c => Num.mul (hf j c) (hf i c))
  obtain ⟨gk, hgk⟩ := Num.mul num_two (Num.sum Finset.univ fun c => Num.mul (hf k c) (hf i c))
  rw [ha, hj, hk, hgj, hgk]
  norm_cast
  constructor <;> intro h <;> linarith

theorem along_last (b : Fin 128) (i j k : Fin 196) :
    Shape.Idx.along (s := S128x196x196) (ix3 b i j) 2 k = ix3 b i k := by
  funext a
  match a with
  | ⟨0, _⟩ => rfl
  | ⟨1, _⟩ => rfl
  | ⟨2, _⟩ => rfl

/-- The words a stable sort of an image's row by the comparison carries along. -/
theorem sorted_at (x : FVec Ideal S128x196x196 .f32) (b : Fin 128) (i t : Fin 196) :
    (Host.sort2 S128x196x196 2 (fun l r : EReal × BitVec 32 => FloatOps.cmpfTotal (F := Ideal) (φ := .f32) .gt l.1 r.1) x
      (fun i => if hd : 2 < S128x196x196.rank then iotaInDim S128x196x196 32 ⟨2, hd⟩ i else 0#32)).2 (ix3 b i t)
    = BitVec.ofNat 32 (sortedFrom (fun k k' : Fin 196 =>
      FloatOps.cmpfTotal (F := Ideal) (φ := .f32) .gt (x (ix3 b i k)) (x (ix3 b i k')) == 1#1) t).val := by
  have e : ∀ k : Fin 196, x (Shape.Idx.along (s := S128x196x196) (ix3 b i t) 2 k) = x (ix3 b i k) :=
    fun k => congrArg x (along_last b i t k)
  show BitVec.ofNat 32 (Shape.Idx.along (s := S128x196x196) (ix3 b i t) 2 (sortedFrom (fun k k' : Fin 196 =>
      FloatOps.cmpfTotal (F := Ideal) (φ := .f32) .gt (x (Shape.Idx.along (s := S128x196x196) (ix3 b i t) 2 k))
        (x (Shape.Idx.along (s := S128x196x196) (ix3 b i t) 2 k')) == 1#1) t) 2).val = _
  have e2 : (fun k k' : Fin 196 =>
      FloatOps.cmpfTotal (F := Ideal) (φ := .f32) .gt (x (Shape.Idx.along (s := S128x196x196) (ix3 b i t) 2 k))
        (x (Shape.Idx.along (s := S128x196x196) (ix3 b i t) 2 k')) == 1#1) = fun k k' : Fin 196 =>
      FloatOps.cmpfTotal (F := Ideal) (φ := .f32) .gt (x (ix3 b i k)) (x (ix3 b i k')) == 1#1 :=
    funext fun k => funext fun k' =>
      congrArg₂ (fun u v : EReal => FloatOps.cmpfTotal (F := Ideal) (φ := .f32) .gt u v == 1#1) (e k) (e k')
  rw [← e2]
  generalize (fun k k' : Fin 196 =>
      FloatOps.cmpfTotal (F := Ideal) (φ := .f32) .gt (x (Shape.Idx.along (s := S128x196x196) (ix3 b i t) 2 k))
        (x (Shape.Idx.along (s := S128x196x196) (ix3 b i t) 2 k')) == 1#1) = R
  refine congrArg (BitVec.ofNat 32) (congrArg Fin.val ?_)
  exact Function.update_self (β := fun a : Fin S128x196x196.rank => Fin (S128x196x196.size a)) 2 (sortedFrom R t) _

/-- The nearest nodes' numbers are those of the order by distance. -/
theorem nearest_at (h : FVec Ideal S128x196x192 .f32) (hf : ∀ i, Num (h i)) (b : Fin 128) (i : Fin 196) (t : Fin 9) :
    nearest h (ix3 b i t) = BitVec.ofNat 32 (near (rows h b) i ⟨t.val, by omega⟩).val := by
  have e : nearest h (ix3 b i t) = BitVec.ofNat 32 (sortedFrom (fun k k' : Fin 196 =>
      (FloatOps.cmpfTotal (F := Ideal) .gt (φ := .f32) (closeness h (ix3 b i k)) (closeness h (ix3 b i k'))) == 1#1)
      ⟨t.val, by omega⟩).val := by
    refine Eq.trans ?_ (sorted_at (closeness h) b i ⟨t.val, by omega⟩)
    unfold nearest Host.topK
    dsimp only
    pointwise
  rw [e]
  unfold near order
  refine congrArg (fun σ : Fin 196 → Fin 196 => BitVec.ofNat 32 (σ ⟨t.val, _⟩).val) ?_
  refine congrArg sortedFrom (funext fun k => funext fun k' => ?_)
  rw [closeness_at, closeness_at]
  have hc := closer_iff (rows h b) (fun i c => hf _) i k k'
  show (BitVec.ofBool (decide _) == 1#1) = _
  rw [decide_eq_decide.mpr hc]
  cases decide (key (rows h b) i k < key (rows h b) i k') <;> rfl

/-- The gather reads the node its start index names. -/
theorem gather_at (h : FVec Ideal S128x196x192 .f32) (idx : IVec S128x196x9x1 32) (b : Fin 128) (i : Fin 196) (t : Fin 9)
    (c : Fin 192) (q : Fin 196) (hq : idx (ix4 b i t 0) = BitVec.ofNat 32 q.val) :
    Host.gather gather_S128x196x192_S128x196x9x1_S128x196x9x192_3_1_0_0_1_3_11192 h idx (ix4 b i t c) = h (ix3 b q c) := by
  unfold Host.gather
  refine congrArg h (funext fun a => Fin.ext ?_)
  match a with
  | ⟨0, _⟩ =>
    show GatherDims.start _ _ idx 0 + GatherDims.batchCoord _ _ 0 + GatherDims.offCoord _ _ 0 = b.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show GatherDims.start _ _ idx 1 + GatherDims.batchCoord _ _ 1 + GatherDims.offCoord _ _ 1 = q.val
    rw [GatherDims.batchCoord_eq_zero _ _ _ (by decide), GatherDims.offCoord_eq_zero _ _ _ (by decide)]
    unfold GatherDims.start
    rw [dif_pos (by decide)]
    have hsi : gather_S128x196x192_S128x196x9x1_S128x196x9x192_3_1_0_0_1_3_11192.siIdx (ix4 b i t c)
        ⟨List.idxOf (1 : Fin 3) gather_S128x196x192_S128x196x9x1_S128x196x9x192_3_1_0_0_1_3_11192.startIndexMap, by decide⟩
        = ix4 b i t 0 := by
      funext b; refine Fin.ext ?_
      match b with
      | ⟨0, _⟩ => rfl
      | ⟨1, _⟩ => rfl
      | ⟨2, _⟩ => rfl
      | ⟨3, _⟩ => rfl
    have hlt := q.isLt
    rw [hsi, hq]
    have h1 : (BitVec.ofNat 32 q.val).toInt.toNat = q.val := by
      rw [BitVec.toInt_eq_toNat_of_lt (by rw [BitVec.toNat_ofNat]; omega), BitVec.toNat_ofNat]; omega
    show min (BitVec.ofNat 32 q.val).toInt.toNat (196 - 1) + 0 + 0 = q.val
    rw [h1]; omega
  | ⟨2, _⟩ =>
    show GatherDims.start _ _ idx 2 + GatherDims.batchCoord _ _ 2 + GatherDims.offCoord _ _ 2 = c.val
    rw [GatherDims.batchCoord_eq_zero _ _ _ (by decide)]
    unfold GatherDims.start
    rw [dif_neg (by decide)]
    simp only [Nat.zero_add]
    rfl

theorem starts_at (ix : IVec S128x196x9 32) (b : Fin 128) (i : Fin 196) (t : Fin 9) (q : Fin 196)
    (hq : ix (ix3 b i t) = BitVec.ofNat 32 q.val) : starts ix (ix4 b i t 0) = BitVec.ofNat 32 q.val := by
  pointwise [starts]
  rw [hq]
  have := q.isLt
  word_omega

theorem differences_at (h : FVec Ideal S128x196x192 .f32) (hf : ∀ i, Num (h i)) (b : Fin 128) (i : Fin 196) (t : Fin 9)
    (c : Fin 192) : differences h (ix4 b i t c)
      = rows h b (near (rows h b) i ⟨t.val, by omega⟩) c - rows h b i c := by
  have e := gather_at h (starts (nearest h)) b i t c _ (starts_at _ b i t _ (nearest_at h hf b i t))
  unfold differences
  refine congrArg₂ (fun x y : EReal => x - y) e ?_
  pointwise [rows]

theorem least_eq : Ideal.ofBits .f32 0xFF800000#32 = ⊥ := by simp [Ideal.ofBits, Ideal.ieee]

/-- The greatest of nine numbers each less the same one is the greatest of the nine less that one. -/
theorem fold_sub (a : Fin 196 → EReal) {r : EReal} (hr : Num r) :
    Finset.fold max ⊥ (fun t : Fin 9 => a ⟨t.val, by omega⟩ - r) Finset.univ
      = ((Finset.univ.filter fun t : Fin 196 => t.val < 9).sup a) - r := by
  obtain ⟨r, rfl⟩ := hr
  have e : Finset.fold max ⊥ (fun t : Fin 9 => a ⟨t.val, by omega⟩ - (r : EReal)) Finset.univ
      = Finset.univ.sup fun t : Fin 9 => a ⟨t.val, by omega⟩ - (r : EReal) := rfl
  have g := Finset.comp_sup_eq_sup_comp (s := Finset.univ.filter fun t : Fin 196 => t.val < 9) (f := a)
    (fun x : EReal => x - (r : EReal))
    (fun x y => (Monotone.map_max (fun _ _ hxy => EReal.sub_le_sub hxy le_rfl)))
    (by show (⊥ : EReal) - r = ⊥; rw [sub_eq_add_neg, EReal.bot_add])
  rw [e]
  refine Eq.trans ?_ g.symm
  refine le_antisymm (Finset.sup_le fun t _ => ?_) (Finset.sup_le fun t ht => ?_)
  · exact Finset.le_sup (f := (fun x : EReal => x - (r : EReal)) ∘ a)
      (Finset.mem_filter.mpr ⟨Finset.mem_univ (⟨t.val, by omega⟩ : Fin 196), t.isLt⟩)
  · exact Finset.le_sup (f := fun t : Fin 9 => a ⟨t.val, by omega⟩ - (r : EReal))
      (Finset.mem_univ (⟨t.val, (Finset.mem_filter.mp ht).2⟩ : Fin 9))

/-- The greatest of the differences is the greatest feature less the node's own. -/
theorem greatest_at (h : FVec Ideal S128x196x192 .f32) (hf : ∀ i, Num (h i)) (b : Fin 128) (i : Fin 196) (c : Fin 192) :
    greatest h (ix3 b i c) = top (rows h b) 9 i c - rows h b i c := by
  pointwise [greatest]
  rw [least_eq]
  simp only [differences_at h hf]
  exact fold_sub (fun t => rows h b (near (rows h b) i t) c) (hf _)

end Cert.Proof.Reference
-- ==== Proof.ReferenceReads.lean ====
/-  The reference's result and its nodes' features, read at an index. -/
module

public import proofs.«01_k».proof.Proof.ReferenceNeighbours

@[expose] public section

set_option maxRecDepth 16384

noncomputable section

namespace Cert.Proof.Reference

open Idealize.ShloMosaic Idealize.ShloMosaic.TcCoe Cert.ReferenceIdeal Cert.ReferenceIdeal.Gen Cert.Proof.Net

theorem resized_at (x : FVec Ideal S128x3x32x32 .f32) (b : Fin 128) (c : Fin 3) (r s : Fin 224) :
    resized x (ix4 b c r s) = ∑ w : Fin 32, (∑ i : Fin 32, Weights.weights (ix2 i r) * x (ix4 b c i w))
      * Weights.weights (ix2 w s) := by
  pointwise [resized]

theorem patches_at (y : FVec Ideal S128x3x224x224 .f32) (b : Fin 128) (p : Fin 196) (q : Fin 768) :
    patches y (ix3 b p q) = y (ix4 b ⟨q.val / 256, by omega⟩ ⟨p.val / 14 * 16 + q.val / 16 % 16, by omega⟩
      ⟨p.val % 14 * 16 + q.val % 16, by omega⟩) := by
  pointwise [patches]

theorem bias_at (v : FVec Ideal S192 .f32) (b : Fin 128) (i : Fin 196) (k : Fin 192) :
    bias v (ix3 b i k) = v (ix1 k) := by
  pointwise [bias]

theorem nodes_at (x : FVec Ideal S128x3x32x32 .f32) (wp : FVec Ideal S768x192 .f32) (bp : FVec Ideal S192 .f32)
    (b : Fin 128) (i : Fin 196) (k : Fin 192) : nodes x wp bp (ix3 b i k)
      = ∑ q : Fin 768, patches (resized x) (ix3 b i q) * wp (ix2 q k) + bp (ix1 k) := by
  pointwise [nodes, embedded, bias_at]

theorem joined_left (h g : FVec Ideal S128x196x192 .f32) (b : Fin 128) (i : Fin 196) (c : Fin 192) :
    joined h g (ix3 b i ⟨c.val, by omega⟩) = h (ix3 b i c) := by
  pointwise [joined]

theorem joined_right (h g : FVec Ideal S128x196x192 .f32) (b : Fin 128) (i : Fin 196) (c : Fin 192) :
    joined h g (ix3 b i ⟨192 + c.val, by omega⟩) = g (ix3 b i c) := by
  pointwise [joined]

/-- A sum over the joined row is one over either half. -/
theorem sum_joined (f : Fin 384 → EReal) :
    ∑ c, f c = ∑ c : Fin 192, f ⟨c.val, by omega⟩ + ∑ c : Fin 192, f ⟨192 + c.val, by omega⟩ :=
  Fin.sum_univ_add (a := 192) (b := 192) f

theorem convolved_at (h : FVec Ideal S128x196x192 .f32) (hf : ∀ i, Num (h i)) (wg : FVec Ideal S384x192 .f32)
    (bg : FVec Ideal S192 .f32) (b : Fin 128) (i : Fin 196) (k : Fin 192) :
    convolved h (joined h (greatest h)) wg bg (ix3 b i k)
      = conv (rows h b) (fun c k => wg (ix2 ⟨c.val, by omega⟩ k)) (fun c k => wg (ix2 ⟨192 + c.val, by omega⟩ k))
          (fun k => bg (ix1 k)) i k := by
  pointwise [convolved, bias_at]
  rw [sum_joined]
  simp only [joined_left, joined_right, greatest_at h hf]
  rfl

theorem one_eq : Ideal.ofBits .f32 0x3F800000#32 = 1 := by
  simp [Ideal.ofBits, Ideal.ieee, -EReal.coe_mul]; norm_num

theorem act_at {s : Shape} (hb : S_.BroadcastsInDim s (![] : Fin 0 → Fin s.rank)) (u : FVec Ideal s .f32) (i : s.Idx) :
    act hb u i = gelu (u i) := by
  have hu : u i * u i * u i = u i * (u i * u i) := mul_comm _ _
  show u i * (Ideal.ofBits .f32 0x3F000000#32 * (Ideal.ofBits .f32 0x3F800000#32 + Ideal.tanh
    (Ideal.ofBits .f32 0x3F4C422A#32 * (u i + Ideal.ofBits .f32 0x3D372713#32 * (u i * u i * u i))))) = _
  rw [hu, one_eq]
  rfl

theorem hidden_at (h : FVec Ideal S128x196x192 .f32) (w1 : FVec Ideal S192x768 .f32) (b1 : FVec Ideal S768 .f32)
    (b : Fin 128) (i : Fin 196) (k : Fin 768) : hidden h w1 b1 (ix3 b i k)
      = layer (rows h b i) (fun c k => w1 (ix2 c k)) (fun k => b1 (ix1 k)) k := by
  pointwise [hidden, layer, rows]

theorem fed_at (h : FVec Ideal S128x196x192 .f32) (w1 : FVec Ideal S192x768 .f32) (b1 : FVec Ideal S768 .f32)
    (w2 : FVec Ideal S768x192 .f32) (b2 : FVec Ideal S192 .f32) (b : Fin 128) (i : Fin 196) (k : Fin 192) :
    fed h w1 b1 w2 b2 (ix3 b i k) = rows h b i k + layer (fun k => gelu (layer (rows h b i) (fun c k => w1 (ix2 c k))
      (fun k => b1 (ix1 k)) k)) (fun c k => w2 (ix2 c k)) (fun k => b2 (ix1 k)) k := by
  pointwise [fed, act_at, hidden_at, bias_at]
  rfl

theorem mean_at (h : FVec Ideal S128x196x192 .f32) (b : Fin 128) (k : Fin 192) :
    mean h (ix2 b k) = Ideal.div (∑ i, h (ix3 b i k)) (Ideal.ofBits .f32 0x43440000#32) := by
  pointwise [mean]

theorem headHidden_at (z : FVec Ideal S128x192 .f32) (w1 : FVec Ideal S192x1024 .f32) (b1 : FVec Ideal S1024 .f32)
    (b : Fin 128) (k : Fin 1024) : headHidden z w1 b1 (ix2 b k)
      = layer (fun c => z (ix2 b c)) (fun c k => w1 (ix2 c k)) (fun k => b1 (ix1 k)) k := by
  pointwise [headHidden, layer]

theorem head_at (z : FVec Ideal S128x192 .f32) (w1 : FVec Ideal S192x1024 .f32) (b1 : FVec Ideal S1024 .f32)
    (w2 : FVec Ideal S1024x10 .f32) (b2 : FVec Ideal S10 .f32) (b : Fin 128) (o : Fin 10) :
    head z w1 b1 w2 b2 (ix2 b o) = Net.head (fun c => z (ix2 b c)) (fun c k => w1 (ix2 c k)) (fun k => b1 (ix1 k))
      (fun c k => w2 (ix2 c k)) (fun k => b2 (ix1 k)) o := by
  pointwise [head, act_at, headHidden_at]
  rfl

/-- The reference's result, in sums. -/
theorem network_at (h : FVec Ideal S128x196x192 .f32) (hf : ∀ i, Num (h i)) (wg : FVec Ideal S384x192 .f32)
    (bg : FVec Ideal S192 .f32) (w1 : FVec Ideal S192x768 .f32) (b1 : FVec Ideal S768 .f32) (w2 : FVec Ideal S768x192 .f32)
    (b2 : FVec Ideal S192 .f32) (wh1 : FVec Ideal S192x1024 .f32) (bh1 : FVec Ideal S1024 .f32)
    (wh2 : FVec Ideal S1024x10 .f32) (bh2 : FVec Ideal S10 .f32) (b : Fin 128) (o : Fin 10) :
    network h wg bg w1 b1 w2 b2 wh1 bh1 wh2 bh2 (ix2 b o)
      = Net.head (Net.pool (conv (rows h b) (fun c k => wg (ix2 ⟨c.val, by omega⟩ k))
            (fun c k => wg (ix2 ⟨192 + c.val, by omega⟩ k)) (fun k => bg (ix1 k)))
          (fun c k => w1 (ix2 c k)) (fun k => b1 (ix1 k)) (fun c k => w2 (ix2 c k)) (fun k => b2 (ix1 k)))
        (fun c k => wh1 (ix2 c k)) (fun k => bh1 (ix1 k)) (fun c k => wh2 (ix2 c k)) (fun k => bh2 (ix1 k)) o := by
  unfold network
  rw [head_at]
  refine congrArg (fun z => Net.head z _ _ _ _ o) (funext fun k => ?_)
  rw [mean_at]
  unfold Net.pool
  have e : rows (convolved h (joined h (greatest h)) wg bg) b = conv (rows h b) (fun c k => wg (ix2 ⟨c.val, by omega⟩ k))
      (fun c k => wg (ix2 ⟨192 + c.val, by omega⟩ k)) (fun k => bg (ix1 k)) :=
    funext fun i => funext fun k => convolved_at h hf wg bg b i k
  refine congrArg (fun s => Ideal.div s _) (Finset.sum_congr rfl fun i _ => ?_)
  rw [fed_at, e]

end Cert.Proof.Reference
-- ==== Proof.Agreement.lean ====
/-  From memories that agree on the arguments, the kernel's result is the reference's. -/
module

public import proofs.«01_k».proof.Proof.KernelValue
public import proofs.«01_k».proof.Proof.ReferenceReads

@[expose] public section

set_option maxRecDepth 16384

noncomputable section

namespace Cert.Proof.Agreement

open Idealize.ShloMosaic Idealize.ShloMosaic.TcCoe Cert.KernelIdeal Cert.KernelIdeal.Gen Cert.Proof.Net

/-- The reference's nodes: its patches of the resized images, each multiplied by the embedding's weights. -/
theorem nodes_plain (x : FVec Ideal S128x3x32x32 .f32) (wp : FVec Ideal S768x192 .f32) (bp : FVec Ideal S192 .f32)
    (b : Fin 128) (i : Fin 196) (k : Fin 192) : Reference.nodes x wp bp (ix3 b i k)
    = Embedding.plain (fun b ch r w => x (ix4 b ch r w)) KernelValue.scale (fun q k => wp (ix2 q k)) (fun k => bp (ix1 k)) b i k := by
  refine (Reference.nodes_at x wp bp b i k).trans ?_
  refine congrArg (fun s : EReal => s + bp (ix1 k)) (Finset.sum_congr rfl fun q _ => ?_)
  refine congrArg (fun s : EReal => s * wp (ix2 q k)) ?_
  exact (Reference.patches_at _ b i q).trans (Reference.resized_at x b _ _ _)

/-- They are numbers where the images, the weights and the bias are. -/
theorem nodes_num (x : FVec Ideal S128x3x32x32 .f32) (wp : FVec Ideal S768x192 .f32) (bp : FVec Ideal S192 .f32)
    (hx : ∀ i, Num (x i)) (hw : ∀ i, Num (wp i)) (hb : ∀ i, Num (bp i)) (j : S128x196x192.Idx) :
    Num (Reference.nodes x wp bp j) := by
  obtain ⟨b, i, k, rfl⟩ : ∃ (b : Fin 128) (i : Fin 196) (k : Fin 192), j = ix3 b i k := exists_ix3 j
  rw [nodes_plain]
  exact Embedding.plain_num _ _ _ _ (fun _ _ _ _ => hx _) (fun i p => Weights.weights_num i p) (fun _ _ => hw _) (fun _ => hb _) b i k

variable (m : (ℓ : Loc nD τ sig) → Buf (Elt Ideal) ℓ) (ρ : Dev nD → PrngReg) (c : Dev nD)

/-- The kernel's nodes are the reference's. -/
theorem nodes_eq (hx : ∀ i, Num (m ((c : Thread nD τ).loc main_arg0) i)) (hw : ∀ i, Num (m ((c : Thread nD τ).loc main_arg1) i))
    (b : Fin 128) (i : Fin 196) (k : Fin 192) : KernelValue.nodes m c b i k
    = Reference.nodes (m ((c : Thread nD τ).loc main_arg0)) (m ((c : Thread nD τ).loc main_arg1))
        (m ((c : Thread nD τ).loc main_arg2)) (ix3 b i k) := by
  refine Eq.trans ?_ (nodes_plain _ _ _ b i k).symm
  exact congrFun (congrFun (congrFun (Embedding.folded_eq (KernelValue.images m c) KernelValue.scale (KernelValue.wp m c)
    (KernelValue.bp m c) (fun _ _ _ _ => hx _) (fun i p => Weights.weights_num i p) (fun _ _ => hw _)) b) i) k

/-- The two results agree. -/
theorem result_eq (hx : ∀ i, Num (m ((c : Thread nD τ).loc main_arg0) i)) (hw : ∀ i, Num (m ((c : Thread nD τ).loc main_arg1) i))
    (hb : ∀ i, Num (m ((c : Thread nD τ).loc main_arg2) i))
    (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0)
      = m ((c.tc : Thread nD τ).loc main_arg0))
    (h1 : m' ((c.tc : Thread Cert.ReferenceIdeal.nD Cert.ReferenceIdeal.τ).loc Cert.ReferenceIdeal.main_arg1)
      = m ((c.tc : Thread nD τ).loc main_arg1))
    (h2 : m' ((c.tc : Thread Cert.ReferenceIdeal.nD Cert.ReferenceIdeal.τ).loc Cert.ReferenceIdeal.main_arg2)
      = m ((c.tc : Thread nD τ).loc main_arg2))
    (h3 : m' ((c.tc : Thread Cert.ReferenceIdeal.nD Cert.ReferenceIdeal.τ).loc Cert.ReferenceIdeal.main_arg3)
      = m ((c.tc : Thread nD τ).loc main_arg3))
    (h4 : m' ((c.tc : Thread Cert.ReferenceIdeal.nD Cert.ReferenceIdeal.τ).loc Cert.ReferenceIdeal.main_arg4)
      = m ((c.tc : Thread nD τ).loc main_arg4))
    (h5 : m' ((c.tc : Thread Cert.ReferenceIdeal.nD Cert.ReferenceIdeal.τ).loc Cert.ReferenceIdeal.main_arg5)
      = m ((c.tc : Thread nD τ).loc main_arg5))
    (h6 : m' ((c.tc : Thread Cert.ReferenceIdeal.nD Cert.ReferenceIdeal.τ).loc Cert.ReferenceIdeal.main_arg6)
      = m ((c.tc : Thread nD τ).loc main_arg6))
    (h7 : m' ((c.tc : Thread Cert.ReferenceIdeal.nD Cert.ReferenceIdeal.τ).loc Cert.ReferenceIdeal.main_arg7)
      = m ((c.tc : Thread nD τ).loc main_arg7))
    (h8 : m' ((c.tc : Thread Cert.ReferenceIdeal.nD Cert.ReferenceIdeal.τ).loc Cert.ReferenceIdeal.main_arg8)
      = m ((c.tc : Thread nD τ).loc main_arg8))
    (h9 : m' ((c.tc : Thread Cert.ReferenceIdeal.nD Cert.ReferenceIdeal.τ).loc Cert.ReferenceIdeal.main_arg9)
      = m ((c.tc : Thread nD τ).loc main_arg9))
    (h10 : m' ((c.tc : Thread Cert.ReferenceIdeal.nD Cert.ReferenceIdeal.τ).loc Cert.ReferenceIdeal.main_arg10)
      = m ((c.tc : Thread nD τ).loc main_arg10))
    (h11 : m' ((c.tc : Thread Cert.ReferenceIdeal.nD Cert.ReferenceIdeal.τ).loc Cert.ReferenceIdeal.main_arg11)
      = m ((c.tc : Thread nD τ).loc main_arg11))
    (h12 : m' ((c.tc : Thread Cert.ReferenceIdeal.nD Cert.ReferenceIdeal.τ).loc Cert.ReferenceIdeal.main_arg12)
      = m ((c.tc : Thread nD τ).loc main_arg12)) :
    W14 m ρ c (Proc.devRef .tc main_v219) = Reference.result m' c := by
  have hn := nodes_num (m ((c : Thread nD τ).loc main_arg0)) (m ((c : Thread nD τ).loc main_arg1))
    (m ((c : Thread nD τ).loc main_arg2)) hx hw hb
  refine funext fun y => ?_
  obtain ⟨b, o, rfl⟩ : ∃ (b : Fin 128) (o : Fin 10), y = ix2 b o := exists_ix2 y
  refine (KernelValue.result_at m ρ c (fun b i k => by rw [nodes_eq m c hx hw]; exact hn _) b o).trans ?_
  unfold Reference.result
  rw [h0, h1, h2, h3, h4, h5, h6, h7, h8, h9, h10, h11, h12]
  refine Eq.trans ?_ (Reference.network_at _ hn _ _ _ _ _ _ _ _ _ _ b o).symm
  unfold KernelValue.out
  rw [show KernelValue.nodes m c b = Reference.rows (Reference.nodes (m ((c : Thread nD τ).loc main_arg0))
      (m ((c : Thread nD τ).loc main_arg1)) (m ((c : Thread nD τ).loc main_arg2))) b from
    funext fun i => funext fun k => nodes_eq m c hx hw b i k]

end Cert.Proof.Agreement
-- ==== Proof.lean ====
/-  The certificate: the three frames, the idealization, and the kernel's result against the reference's. -/
module

public import proofs.«01_k».proof.Defs
public import proofs.«01_k».proof.Proof.Gen.Kernel.Frame
public import proofs.«01_k».proof.Proof.Run
public import proofs.«01_k».proof.Proof.Finite
public import proofs.«01_k».proof.Proof.Agreement

@[expose] public section

set_option maxRecDepth 16384

noncomputable section

namespace Cert.Proof

open Idealize.ShloMosaic Idealize.SL.Sem Cert.Kernel

/-- Kernel and reference, over the extended reals, end with equal results. -/
theorem algebraic : Cert.algebraic_KernelIdeal_ReferenceIdeal (hKernelIdeal := Cert.KernelIdeal.Gen.facts)
    (hReferenceIdeal := Cert.ReferenceIdeal.Gen.facts) (hPre_distinct := Cert.Pre_distinct.Gen.facts) := by
  intro m g m' g' hpre hargs
  refine ⟨fun c => Cert.KernelIdeal.Gen.W14 m g c (Proc.devRef .tc Cert.KernelIdeal.main_v219),
    θ_run_mono (Run.value_run m g) fun r h => h.1, θ_run_mono (Reference.run m' g') fun r h c => ?_⟩
  obtain ⟨hv, hrest⟩ := h.1 c
  obtain ⟨h0, h1, h2, h3, h4, h5, h6, h7, h8, h9, h10, h11, h12⟩ := hargs c
  obtain ⟨hx, hw, hb⟩ := Finite.num_of_finite _ _ _ (Finite.finite_of_pre _ _ _ _ _ _ _ _ _ _ _ _ _ (hpre c))
  exact ⟨hv.trans (Agreement.result_eq m g c hx hw hb m' h0 h1 h2 h3 h4 h5 h6 h7 h8 h9 h10 h11 h12).symm, hrest⟩

/-- Everything claimed. -/
theorem claim : Cert.Claim :=
  ⟨Cert.Kernel.Gen.facts, Cert.KernelIdeal.Gen.facts, Cert.ReferenceIdeal.Gen.facts, Cert.Pre_distinct.Gen.facts,
    fun m ρ _ => Cert.Kernel.Gen.frame m ρ, fun m ρ _ => Cert.Kernel.Gen.frame m ρ,
    fun m ρ _ => Cert.KernelIdeal.Gen.frame m ρ,
    fun m ρ _ => θ_run_mono (Reference.run m ρ) fun _ h => ⟨fun c => (h.1 c).2, h.2⟩,
    fun m ρ _ => θ_run_mono (Reference.run m ρ) fun _ h => ⟨fun c => (h.1 c).2, h.2⟩,
    trivial, algebraic⟩

end Cert.Proof

end
